-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_within_capacity_KernelIdeal [hPre_routed_within_capacity_KernelIdeal : Cert.Pre_routed_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_within_capacity_ReferenceIdeal [hPre_routed_within_capacity_ReferenceIdeal : Cert.Pre_routed_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_within_capacity_KernelIdeal [hKernelIdeal : Cert.KernelIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_within_capacity_ReferenceIdeal [hReferenceIdeal : Cert.ReferenceIdeal.Facts] [hPre_routed_within_capacity_ReferenceIdeal : Cert.Pre_routed_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_within_capacity_KernelIdeal [hKernelIdeal : Cert.KernelIdeal.Facts] [hReferenceIdeal : Cert.ReferenceIdeal.Facts] [hPre_routed_within_capacity_KernelIdeal : Cert.Pre_routed_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_within_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_within_capacity_KernelIdeal : Cert.Pre_routed_within_capacity_KernelIdeal.Facts) (hPre_routed_within_capacity_ReferenceIdeal : Cert.Pre_routed_within_capacity_ReferenceIdeal.Facts),
    quiescent_Kernel (hKernel := hKernel)
    ∧ quiescent_KernelIdeal (hKernelIdeal := hKernelIdeal)
    ∧ quiescent_KernelIdeal_pre_routed_within_capacity_KernelIdeal (hKernelIdeal := hKernelIdeal) (hPre_routed_within_capacity_KernelIdeal := hPre_routed_within_capacity_KernelIdeal)
    ∧ quiescent_ReferenceIdeal (hReferenceIdeal := hReferenceIdeal)
    ∧ quiescent_ReferenceIdeal_pre_routed_within_capacity_ReferenceIdeal (hReferenceIdeal := hReferenceIdeal) (hPre_routed_within_capacity_ReferenceIdeal := hPre_routed_within_capacity_ReferenceIdeal)
    ∧ preserves_Kernel_KernelIdeal
    ∧ algebraic_KernelIdeal_ReferenceIdeal_pre_routed_within_capacity_KernelIdeal (hKernelIdeal := hKernelIdeal) (hReferenceIdeal := hReferenceIdeal) (hPre_routed_within_capacity_KernelIdeal := hPre_routed_within_capacity_KernelIdeal)
-- ==== Pre_routed_within_capacity_KernelIdeal.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S512x1024 : Shape := ⟨2, ![512, 1024]⟩
abbrev S16x128x1 : Shape := ⟨3, ![16, 128, 1]⟩
abbrev S16x128x16 : Shape := ⟨3, ![16, 128, 16]⟩
abbrev S_ : Shape := ⟨0, ![]⟩
abbrev S16x16 : Shape := ⟨2, ![16, 16]⟩
abbrev S16x1x16 : Shape := ⟨3, ![16, 1, 16]⟩

class Facts : Prop where
  shapeCasts_S2048x1_S16x128x1 : S2048x1.ShapeCasts S16x128x1
  bcast_S_S16x128x16 : S_.BroadcastsInDim S16x128x16 (![] : Fin 0 → Fin S16x128x16.rank)
  bcast_S16x128x1_S16x128x16_0_1_2 : S16x128x1.BroadcastsInDim S16x128x16 (![0, 1, 2] : Fin 3 → Fin S16x128x16.rank)
  natLt_1_32 : 1 < 32
  reducesTo_S16x128x16_S16x16_d1 : S16x128x16.ReducesTo [1] S16x16
  h_S_ : 0 < S_.numel
  bcast_S16x16_S16x1x16_0_2 : S16x16.BroadcastsInDim S16x1x16 (![0, 2] : Fin 2 → Fin S16x1x16.rank)
  bcast_S_S16x128x1 : S_.BroadcastsInDim S16x128x1 (![] : Fin 0 → Fin S16x128x1.rank)
  bcast_S_S16x1x16 : S_.BroadcastsInDim S16x1x16 (![] : Fin 0 → Fin S16x1x16.rank)
  bcast_S16x1x16_S16x128x16_0_1_2 : S16x1x16.BroadcastsInDim S16x128x16 (![0, 1, 2] : Fin 3 → Fin S16x128x16.rank)
  bcast_S_S2048x512 : S_.BroadcastsInDim S2048x512 (![] : Fin 0 → Fin S2048x512.rank)
  reducesTo_S2048x512_S_d0_1 : S2048x512.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg0 : FVec F S2048x512 .bf16) (main_arg1 : FVec F S512x128 .bf16) (main_v13 : IVec S16x1x16 32) (main_v18 : IVec S16x128x1 1) : IVec S16x128x16 1 :=
  let main_c_4 : IVec S_ 32 := constantI S_ 32 32#32
  let main_v19 : IVec S16x1x16 32 := broadcastInDim S16x1x16 ![] bcast_S_S16x1x16 main_c_4
  let main_v20 : IVec S16x1x16 1 := cmpi .sle main_v13 main_v19
  let main_v21 : IVec S16x128x16 1 := broadcastInDim S16x128x16 ![0, 1, 2] bcast_S16x128x1_S16x128x16_0_1_2 main_v18
  let main_v22 : IVec S16x128x16 1 := broadcastInDim S16x128x16 ![0, 1, 2] bcast_S16x1x16_S16x128x16_0_1_2 main_v20
  let main_v23 : IVec S16x128x16 1 := andi main_v21 main_v22
  let main_v24 : FVec F S2048x512 .bf16 := Host.absf main_arg0
  let main_cst : FVec F S_ .bf16 := constant S_ .bf16 0x7F80#16
  let main_v25 : FVec F S2048x512 .bf16 := broadcastInDim S2048x512 ![] bcast_S_S2048x512 main_cst
  let main_v26 : IVec S2048x512 1 := cmpf .olt main_v24 main_v25
  let main_c_5 : IVec S_ 1 := constantI S_ 1 1#1
  let main_v27 : IVec S_ 1 := (fun x v => Host.reduce IntOp.andi x v reducesTo_S2048x512_S_d0_1 h_S_) main_v26 main_c_5
  let main_v28 : IVec S16x128x16 1 := broadcastInDim S16x128x16 ![] bcast_S_S16x128x16 main_v27
  let main_v29 : IVec S16x128x16 1 := andi main_v23 main_v28
  let main_v30 : FVec F S512x128 .bf16 := Host.absf main_arg1
  let main_cst_6 : FVec F S_ .bf16 := constant S_ .bf16 0x7F80#16
  let main_v31 : FVec F S512x128 .bf16 := broadcastInDim S512x128 ![] bcast_S_S512x128 main_cst_6
  let main_v32 : IVec S512x128 1 := cmpf .olt main_v30 main_v31
  let main_c_7 : IVec S_ 1 := constantI S_ 1 1#1
  let main_v33 : IVec S_ 1 := (fun x v => Host.reduce IntOp.andi x v reducesTo_S512x128_S_d0_1 h_S_) main_v32 main_c_7
  let main_v34 : IVec S16x128x16 1 := broadcastInDim S16x128x16 ![] bcast_S_S16x128x16 main_v33
  let main_v35 : IVec S16x128x16 1 := andi main_v29 main_v34
  main_v35

def fn {F : FTy → Type} [FloatOps F] (main_arg0 : FVec F S2048x512 .bf16) (main_arg1 : FVec F S512x128 .bf16) (main_arg2 : IVec S2048x1 32) (main_arg3 : FVec F S8x512x1024 .bf16) (main_arg4 : FVec F S512x1024 .bf16) : IVec S16x128x16 1 :=
  let main_v0 : IVec S16x128x1 32 := shapeCast S16x128x1 main_arg2 shapeCasts_S2048x1_S16x128x1
  let main_v1 : IVec S16x128x16 32 := iotaInDim S16x128x16 32 2
  let main_c : IVec S_ 32 := constantI S_ 32 8#32
  let main_v2 : IVec S16x128x16 32 := broadcastInDim S16x128x16 ![] bcast_S_S16x128x16 main_c
  let main_v3 : IVec S16x128x16 32 := muli main_v2 main_v1
  let main_v4 : IVec S16x128x16 32 := broadcastInDim S16x128x16 ![0, 1, 2] bcast_S16x128x1_S16x128x16_0_1_2 main_v0
  let main_v5 : IVec S16x128x16 1 := cmpi .sge main_v4 main_v3
  let main_c_0 : IVec S_ 32 := constantI S_ 32 8#32
  let main_v6 : IVec S16x128x16 32 := broadcastInDim S16x128x16 ![] bcast_S_S16x128x16 main_c_0
  let main_v7 : IVec S16x128x16 32 := addi main_v3 main_v6
  let main_v8 : IVec S16x128x16 32 := broadcastInDim S16x128x16 ![0, 1, 2] bcast_S16x128x1_S16x128x16_0_1_2 main_v0
  let main_v9 : IVec S16x128x16 1 := cmpi .slt main_v8 main_v7
  let main_v10 : IVec S16x128x16 1 := andi main_v5 main_v9
  let main_v11 : IVec S16x128x16 32 := (extui 32 · natLt_1_32) main_v10
  let main_c_1 : IVec S_ 32 := constantI S_ 32 0#32
  let main_v12 : IVec S16x16 32 := (fun x v => Host.reduce IntOp.addi x v reducesTo_S16x128x16_S16x16_d1 h_S_) main_v11 main_c_1
  let main_v13 : IVec S16x1x16 32 := broadcastInDim S16x1x16 ![0, 2] bcast_S16x16_S16x1x16_0_2 main_v12
  let main_c_2 : IVec S_ 32 := constantI S_ 32 0#32
  let main_v14 : IVec S16x128x1 32 := broadcastInDim S16x128x1 ![] bcast_S_S16x128x1 main_c_2
  let main_v15 : IVec S16x128x1 1 := cmpi .sge main_v0 main_v14
  let main_c_3 : IVec S_ 32 := constantI S_ 32 128#32
  let main_v16 : IVec S16x128x1 32 := broadcastInDim S16x128x1 ![] bcast_S_S16x128x1 main_c_3
  let main_v17 : IVec S16x128x1 1 := cmpi .slt main_v0 main_v16
  let main_v18 : IVec S16x128x1 1 := andi main_v15 main_v17
  fn_part1 (F := F) main_arg0 main_arg1 main_v13 main_v18
-- ==== Pre_routed_within_capacity_ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S16x128x1 : Shape := ⟨3, ![16, 128, 1]⟩
abbrev S16x128x16 : Shape := ⟨3, ![16, 128, 16]⟩
abbrev S_ : Shape := ⟨0, ![]⟩
abbrev S16x16 : Shape := ⟨2, ![16, 16]⟩
abbrev S16x1x16 : Shape := ⟨3, ![16, 1, 16]⟩

class Facts : Prop where
  shapeCasts_S2048x1_S16x128x1 : S2048x1.ShapeCasts S16x128x1
  bcast_S_S16x128x16 : S_.BroadcastsInDim S16x128x16 (![] : Fin 0 → Fin S16x128x16.rank)
  bcast_S16x128x1_S16x128x16_0_1_2 : S16x128x1.BroadcastsInDim S16x128x16 (![0, 1, 2] : Fin 3 → Fin S16x128x16.rank)
  natLt_1_32 : 1 < 32
  reducesTo_S16x128x16_S16x16_d1 : S16x128x16.ReducesTo [1] S16x16
  h_S_ : 0 < S_.numel
  bcast_S16x16_S16x1x16_0_2 : S16x16.BroadcastsInDim S16x1x16 (![0, 2] : Fin 2 → Fin S16x1x16.rank)
  bcast_S_S16x128x1 : S_.BroadcastsInDim S16x128x1 (![] : Fin 0 → Fin S16x128x1.rank)
  bcast_S_S16x1x16 : S_.BroadcastsInDim S16x1x16 (![] : Fin 0 → Fin S16x1x16.rank)
  bcast_S16x1x16_S16x128x16_0_1_2 : S16x1x16.BroadcastsInDim S16x128x16 (![0, 1, 2] : Fin 3 → Fin S16x128x16.rank)
  bcast_S_S2048x512 : S_.BroadcastsInDim S2048x512 (![] : Fin 0 → Fin S2048x512.rank)
  reducesTo_S2048x512_S_d0_1 : S2048x512.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg0 : FVec F S2048x512 .bf16) (main_arg1 : FVec F S512x128 .bf16) (main_v13 : IVec S16x1x16 32) (main_v18 : IVec S16x128x1 1) : IVec S16x128x16 1 :=
  let main_c_4 : IVec S_ 32 := constantI S_ 32 32#32
  let main_v19 : IVec S16x1x16 32 := broadcastInDim S16x1x16 ![] bcast_S_S16x1x16 main_c_4
  let main_v20 : IVec S16x1x16 1 := cmpi .sle main_v13 main_v19
  let main_v21 : IVec S16x128x16 1 := broadcastInDim S16x128x16 ![0, 1, 2] bcast_S16x128x1_S16x128x16_0_1_2 main_v18
  let main_v22 : IVec S16x128x16 1 := broadcastInDim S16x128x16 ![0, 1, 2] bcast_S16x1x16_S16x128x16_0_1_2 main_v20
  let main_v23 : IVec S16x128x16 1 := andi main_v21 main_v22
  let main_v24 : FVec F S2048x512 .bf16 := Host.absf main_arg0
  let main_cst : FVec F S_ .bf16 := constant S_ .bf16 0x7F80#16
  let main_v25 : FVec F S2048x512 .bf16 := broadcastInDim S2048x512 ![] bcast_S_S2048x512 main_cst
  let main_v26 : IVec S2048x512 1 := cmpf .olt main_v24 main_v25
  let main_c_5 : IVec S_ 1 := constantI S_ 1 1#1
  let main_v27 : IVec S_ 1 := (fun x v => Host.reduce IntOp.andi x v reducesTo_S2048x512_S_d0_1 h_S_) main_v26 main_c_5
  let main_v28 : IVec S16x128x16 1 := broadcastInDim S16x128x16 ![] bcast_S_S16x128x16 main_v27
  let main_v29 : IVec S16x128x16 1 := andi main_v23 main_v28
  let main_v30 : FVec F S512x128 .bf16 := Host.absf main_arg1
  let main_cst_6 : FVec F S_ .bf16 := constant S_ .bf16 0x7F80#16
  let main_v31 : FVec F S512x128 .bf16 := broadcastInDim S512x128 ![] bcast_S_S512x128 main_cst_6
  let main_v32 : IVec S512x128 1 := cmpf .olt main_v30 main_v31
  let main_c_7 : IVec S_ 1 := constantI S_ 1 1#1
  let main_v33 : IVec S_ 1 := (fun x v => Host.reduce IntOp.andi x v reducesTo_S512x128_S_d0_1 h_S_) main_v32 main_c_7
  let main_v34 : IVec S16x128x16 1 := broadcastInDim S16x128x16 ![] bcast_S_S16x128x16 main_v33
  let main_v35 : IVec S16x128x16 1 := andi main_v29 main_v34
  main_v35

def fn {F : FTy → Type} [FloatOps F] (main_arg0 : FVec F S2048x512 .bf16) (main_arg1 : FVec F S512x128 .bf16) (main_arg2 : IVec S2048x1 32) (main_arg3 : FVec F S128x512x1024 .bf16) (main_arg4 : FVec F S512x1024 .bf16) : IVec S16x128x16 1 :=
  let main_v0 : IVec S16x128x1 32 := shapeCast S16x128x1 main_arg2 shapeCasts_S2048x1_S16x128x1
  let main_v1 : IVec S16x128x16 32 := iotaInDim S16x128x16 32 2
  let main_c : IVec S_ 32 := constantI S_ 32 8#32
  let main_v2 : IVec S16x128x16 32 := broadcastInDim S16x128x16 ![] bcast_S_S16x128x16 main_c
  let main_v3 : IVec S16x128x16 32 := muli main_v2 main_v1
  let main_v4 : IVec S16x128x16 32 := broadcastInDim S16x128x16 ![0, 1, 2] bcast_S16x128x1_S16x128x16_0_1_2 main_v0
  let main_v5 : IVec S16x128x16 1 := cmpi .sge main_v4 main_v3
  let main_c_0 : IVec S_ 32 := constantI S_ 32 8#32
  let main_v6 : IVec S16x128x16 32 := broadcastInDim S16x128x16 ![] bcast_S_S16x128x16 main_c_0
  let main_v7 : IVec S16x128x16 32 := addi main_v3 main_v6
  let main_v8 : IVec S16x128x16 32 := broadcastInDim S16x128x16 ![0, 1, 2] bcast_S16x128x1_S16x128x16_0_1_2 main_v0
  let main_v9 : IVec S16x128x16 1 := cmpi .slt main_v8 main_v7
  let main_v10 : IVec S16x128x16 1 := andi main_v5 main_v9
  let main_v11 : IVec S16x128x16 32 := (extui 32 · natLt_1_32) main_v10
  let main_c_1 : IVec S_ 32 := constantI S_ 32 0#32
  let main_v12 : IVec S16x16 32 := (fun x v => Host.reduce IntOp.addi x v reducesTo_S16x128x16_S16x16_d1 h_S_) main_v11 main_c_1
  let main_v13 : IVec S16x1x16 32 := broadcastInDim S16x1x16 ![0, 2] bcast_S16x16_S16x1x16_0_2 main_v12
  let main_c_2 : IVec S_ 32 := constantI S_ 32 0#32
  let main_v14 : IVec S16x128x1 32 := broadcastInDim S16x128x1 ![] bcast_S_S16x128x1 main_c_2
  let main_v15 : IVec S16x128x1 1 := cmpi .sge main_v0 main_v14
  let main_c_3 : IVec S_ 32 := constantI S_ 32 128#32
  let main_v16 : IVec S16x128x1 32 := broadcastInDim S16x128x1 ![] bcast_S_S16x128x1 main_c_3
  let main_v17 : IVec S16x128x1 1 := cmpi .slt main_v0 main_v16
  let main_v18 : IVec S16x128x1 1 := andi main_v15 main_v17
  fn_part1 (F := F) main_arg0 main_arg1 main_v13 main_v18
-- ==== Kernel.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S512x1024 : Shape := ⟨2, ![512, 1024]⟩
abbrev S128x1024 : Shape := ⟨2, ![128, 1024]⟩
abbrev S2048x128 : Shape := ⟨2, ![2048, 128]⟩
abbrev S4096x1024 : Shape := ⟨2, ![4096, 1024]⟩
abbrev S512x4096 : Shape := ⟨2, ![512, 4096]⟩
abbrev S15x32x1024 : Shape := ⟨3, ![15, 32, 1024]⟩
abbrev S15 : Shape := ⟨1, ![15]⟩
abbrev S_ : Shape := ⟨0, ![]⟩
abbrev S2048 : Shape := ⟨1, ![2048]⟩
abbrev S128x128 : Shape := ⟨2, ![128, 128]⟩
abbrev S32x128 : Shape := ⟨2, ![32, 128]⟩
abbrev S128x32 : Shape := ⟨2, ![128, 32]⟩
abbrev S128x512 : Shape := ⟨2, ![128, 512]⟩
abbrev S128x1 : Shape := ⟨2, ![128, 1]⟩
abbrev S128 : Shape := ⟨1, ![128]⟩
abbrev S128x4096 : Shape := ⟨2, ![128, 4096]⟩
abbrev S32x4096 : Shape := ⟨2, ![32, 4096]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S8x512x1024, .bf16⟩
  | .hbm, ⟨4, _⟩ => ⟨S512x1024, .bf16⟩
  | .hbm, ⟨5, _⟩ => ⟨S128x1024, .f32⟩
  | .local _ .vmem, ⟨0, _⟩ => ⟨S2048x512, .bf16⟩
  | .local _ .vmem, ⟨1, _⟩ => ⟨S512x128, .bf16⟩
  | .local _ .vmem, ⟨2, _⟩ => ⟨S2048x1, .i32⟩
  | .local _ .vmem, ⟨3, _⟩ => ⟨S8x512x1024, .bf16⟩
  | .local _ .vmem, ⟨4, _⟩ => ⟨S512x1024, .bf16⟩
  | .local _ .vmem, ⟨5, _⟩ => ⟨S128x1024, .f32⟩
  | .local _ .vmem, ⟨6, _⟩ => ⟨S2048x128, .f32⟩
  | .local _ .vmem, ⟨7, _⟩ => ⟨S2048x512, .bf16⟩
  | .local _ .vmem, ⟨8, _⟩ => ⟨S4096x1024, .bf16⟩
  | .local _ .vmem, ⟨9, _⟩ => ⟨S512x1024, .bf16⟩
  | .local _ .vmem, ⟨10, _⟩ => ⟨S512x4096, .bf16⟩
  | .local _ .vmem, ⟨11, _⟩ => ⟨S512x1024, .bf16⟩
  | .local _ .vmem, ⟨12, _⟩ => ⟨S15x32x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_162 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_161 : BitVec 32 := 1#32
  let v251 : BitVec 32 := Scalar.addi v2 c1_i32_161
  let v252 : BitVec 32 := Scalar.addi v251 c0_i32_162
  let c16_i32_163 : BitVec 32 := 16#32
  let c0_i32_164 : BitVec 32 := 0#32
  let v253 : BitVec 1 := Scalar.cmpi .eq c16_i32_163 c0_i32_164
  let c1_i32_165 : BitVec 32 := 1#32
  let v254 : BitVec 32 := Scalar.select v253 c1_i32_165 c16_i32_163
  let v255 : BitVec 32 := Scalar.remsi v252 v254
  let c0_i32_167 : BitVec 32 := 0#32
  let v257 : BitVec 1 := Scalar.cmpi .slt v255 c0_i32_167
  let c0_i32_168 : BitVec 32 := 0#32
  let v258 : BitVec 1 := Scalar.cmpi .slt v254 c0_i32_168
  let v259 : BitVec 1 := Scalar.xori v257 v258
  let c0_i32_166 : BitVec 32 := 0#32
  let v256 : BitVec 1 := Scalar.cmpi .ne v255 c0_i32_166
  let v260 : BitVec 1 := Scalar.andi v259 v256
  let v261 : BitVec 32 := Scalar.addi v255 v254
  let v262 : BitVec 32 := Scalar.select v260 v261 v255
  let c128_i32 : BitVec 32 := 128#32
  let v263 : BitVec 32 := Scalar.muli v262 c128_i32
  let v264 : Index := Scalar.indexCast v263
  let c0_169 : Index := 0#32
  ![v264.toNat, 0]
def k0_off2 (d0 : Dev nD) (c0_i32_162 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_161 : BitVec 32 := 1#32
  let v251 : BitVec 32 := Scalar.addi v2 c1_i32_161
  let v252 : BitVec 32 := Scalar.addi v251 c0_i32_162
  let c16_i32_163 : BitVec 32 := 16#32
  let c0_i32_164 : BitVec 32 := 0#32
  let v253 : BitVec 1 := Scalar.cmpi .eq c16_i32_163 c0_i32_164
  let c1_i32_165 : BitVec 32 := 1#32
  let v254 : BitVec 32 := Scalar.select v253 c1_i32_165 c16_i32_163
  let v255 : BitVec 32 := Scalar.remsi v252 v254
  let c0_i32_167 : BitVec 32 := 0#32
  let v257 : BitVec 1 := Scalar.cmpi .slt v255 c0_i32_167
  let c0_i32_168 : BitVec 32 := 0#32
  let v258 : BitVec 1 := Scalar.cmpi .slt v254 c0_i32_168
  let v259 : BitVec 1 := Scalar.xori v257 v258
  let c0_i32_166 : BitVec 32 := 0#32
  let v256 : BitVec 1 := Scalar.cmpi .ne v255 c0_i32_166
  let v260 : BitVec 1 := Scalar.andi v259 v256
  let v261 : BitVec 32 := Scalar.addi v255 v254
  let v262 : BitVec 32 := Scalar.select v260 v261 v255
  let c128_i32_170 : BitVec 32 := 128#32
  let v266 : BitVec 32 := Scalar.muli v262 c128_i32_170
  let v267 : Index := Scalar.indexCast v266
  let c0_171 : Index := 0#32
  ![v267.toNat, 0]
def k0_off3 (d0 : Dev nD) (c0_i32_162 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_161 : BitVec 32 := 1#32
  let v251 : BitVec 32 := Scalar.addi v2 c1_i32_161
  let v252 : BitVec 32 := Scalar.addi v251 c0_i32_162
  let c16_i32_163 : BitVec 32 := 16#32
  let c0_i32_164 : BitVec 32 := 0#32
  let v253 : BitVec 1 := Scalar.cmpi .eq c16_i32_163 c0_i32_164
  let c1_i32_165 : BitVec 32 := 1#32
  let v254 : BitVec 32 := Scalar.select v253 c1_i32_165 c16_i32_163
  let v255 : BitVec 32 := Scalar.remsi v252 v254
  let c0_i32_167 : BitVec 32 := 0#32
  let v257 : BitVec 1 := Scalar.cmpi .slt v255 c0_i32_167
  let c0_i32_168 : BitVec 32 := 0#32
  let v258 : BitVec 1 := Scalar.cmpi .slt v254 c0_i32_168
  let v259 : BitVec 1 := Scalar.xori v257 v258
  let c0_i32_166 : BitVec 32 := 0#32
  let v256 : BitVec 1 := Scalar.cmpi .ne v255 c0_i32_166
  let v260 : BitVec 1 := Scalar.andi v259 v256
  let v261 : BitVec 32 := Scalar.addi v255 v254
  let v262 : BitVec 32 := Scalar.select v260 v261 v255
  let c128_i32_172 : BitVec 32 := 128#32
  let v269 : BitVec 32 := Scalar.muli v262 c128_i32_172
  let v270 : Index := Scalar.indexCast v269
  let c0_173 : Index := 0#32
  ![v270.toNat, 0]
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_352 : BitVec 32 := 1#32
  let v790 : BitVec 32 := Scalar.addi v2 c1_i32_352
  let c0_i32_353 : BitVec 32 := 0#32
  let v791 : BitVec 32 := Scalar.addi v790 c0_i32_353
  let c16_i32_354 : BitVec 32 := 16#32
  let c0_i32_355 : BitVec 32 := 0#32
  let v792 : BitVec 1 := Scalar.cmpi .eq c16_i32_354 c0_i32_355
  let c1_i32_356 : BitVec 32 := 1#32
  let v793 : BitVec 32 := Scalar.select v792 c1_i32_356 c16_i32_354
  let v794 : BitVec 32 := Scalar.remsi v791 v793
  let c0_i32_358 : BitVec 32 := 0#32
  let v796 : BitVec 1 := Scalar.cmpi .slt v794 c0_i32_358
  let c0_i32_359 : BitVec 32 := 0#32
  let v797 : BitVec 1 := Scalar.cmpi .slt v793 c0_i32_359
  let v798 : BitVec 1 := Scalar.xori v796 v797
  let c0_i32_357 : BitVec 32 := 0#32
  let v795 : BitVec 1 := Scalar.cmpi .ne v794 c0_i32_357
  let v799 : BitVec 1 := Scalar.andi v798 v795
  let v800 : BitVec 32 := Scalar.addi v794 v793
  let v801 : BitVec 32 := Scalar.select v799 v800 v794
  let c1_i32_363 : BitVec 32 := 1#32
  let v802 : BitVec 32 := Scalar.muli v801 c1_i32_363
  let v803 : BitVec 32 := Scalar.addi c0_i32_364 v802
  v803.toNat
def k0_dev17 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_369 : BitVec 32 := 1#32
  let v811 : BitVec 32 := Scalar.addi v2 c1_i32_369
  let c1_i32_370 : BitVec 32 := 1#32
  let v812 : BitVec 32 := Scalar.addi v811 c1_i32_370
  let c16_i32_371 : BitVec 32 := 16#32
  let c0_i32_372 : BitVec 32 := 0#32
  let v813 : BitVec 1 := Scalar.cmpi .eq c16_i32_371 c0_i32_372
  let c1_i32_373 : BitVec 32 := 1#32
  let v814 : BitVec 32 := Scalar.select v813 c1_i32_373 c16_i32_371
  let v815 : BitVec 32 := Scalar.remsi v812 v814
  let c0_i32_375 : BitVec 32 := 0#32
  let v817 : BitVec 1 := Scalar.cmpi .slt v815 c0_i32_375
  let c0_i32_376 : BitVec 32 := 0#32
  let v818 : BitVec 1 := Scalar.cmpi .slt v814 c0_i32_376
  let v819 : BitVec 1 := Scalar.xori v817 v818
  let c0_i32_374 : BitVec 32 := 0#32
  let v816 : BitVec 1 := Scalar.cmpi .ne v815 c0_i32_374
  let v820 : BitVec 1 := Scalar.andi v819 v816
  let v821 : BitVec 32 := Scalar.addi v815 v814
  let v822 : BitVec 32 := Scalar.select v820 v821 v815
  let c1_i32_380 : BitVec 32 := 1#32
  let v823 : BitVec 32 := Scalar.muli v822 c1_i32_380
  let v824 : BitVec 32 := Scalar.addi c0_i32_381 v823
  v824.toNat
def k0_dev18 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_385 : BitVec 32 := 1#32
  let v832 : BitVec 32 := Scalar.addi v2 c1_i32_385
  let c2_i32_386 : BitVec 32 := 2#32
  let v833 : BitVec 32 := Scalar.addi v832 c2_i32_386
  let c16_i32_387 : BitVec 32 := 16#32
  let c0_i32_388 : BitVec 32 := 0#32
  let v834 : BitVec 1 := Scalar.cmpi .eq c16_i32_387 c0_i32_388
  let c1_i32_389 : BitVec 32 := 1#32
  let v835 : BitVec 32 := Scalar.select v834 c1_i32_389 c16_i32_387
  let v836 : BitVec 32 := Scalar.remsi v833 v835
  let c0_i32_391 : BitVec 32 := 0#32
  let v838 : BitVec 1 := Scalar.cmpi .slt v836 c0_i32_391
  let c0_i32_392 : BitVec 32 := 0#32
  let v839 : BitVec 1 := Scalar.cmpi .slt v835 c0_i32_392
  let v840 : BitVec 1 := Scalar.xori v838 v839
  let c0_i32_390 : BitVec 32 := 0#32
  let v837 : BitVec 1 := Scalar.cmpi .ne v836 c0_i32_390
  let v841 : BitVec 1 := Scalar.andi v840 v837
  let v842 : BitVec 32 := Scalar.addi v836 v835
  let v843 : BitVec 32 := Scalar.select v841 v842 v836
  let c1_i32_396 : BitVec 32 := 1#32
  let v844 : BitVec 32 := Scalar.muli v843 c1_i32_396
  let v845 : BitVec 32 := Scalar.addi c0_i32_397 v844
  v845.toNat
def k0_dev19 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_401 : BitVec 32 := 1#32
  let v853 : BitVec 32 := Scalar.addi v2 c1_i32_401
  let c3_i32_402 : BitVec 32 := 3#32
  let v854 : BitVec 32 := Scalar.addi v853 c3_i32_402
  let c16_i32_403 : BitVec 32 := 16#32
  let c0_i32_404 : BitVec 32 := 0#32
  let v855 : BitVec 1 := Scalar.cmpi .eq c16_i32_403 c0_i32_404
  let c1_i32_405 : BitVec 32 := 1#32
  let v856 : BitVec 32 := Scalar.select v855 c1_i32_405 c16_i32_403
  let v857 : BitVec 32 := Scalar.remsi v854 v856
  let c0_i32_407 : BitVec 32 := 0#32
  let v859 : BitVec 1 := Scalar.cmpi .slt v857 c0_i32_407
  let c0_i32_408 : BitVec 32 := 0#32
  let v860 : BitVec 1 := Scalar.cmpi .slt v856 c0_i32_408
  let v861 : BitVec 1 := Scalar.xori v859 v860
  let c0_i32_406 : BitVec 32 := 0#32
  let v858 : BitVec 1 := Scalar.cmpi .ne v857 c0_i32_406
  let v862 : BitVec 1 := Scalar.andi v861 v858
  let v863 : BitVec 32 := Scalar.addi v857 v856
  let v864 : BitVec 32 := Scalar.select v862 v863 v857
  let c1_i32_412 : BitVec 32 := 1#32
  let v865 : BitVec 32 := Scalar.muli v864 c1_i32_412
  let v866 : BitVec 32 := Scalar.addi c0_i32_413 v865
  v866.toNat
def k0_dev20 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_608 : BitVec 32 := 1#32
  let v1413 : BitVec 32 := Scalar.addi v2 c1_i32_608
  let c4_i32_609 : BitVec 32 := 4#32
  let v1414 : BitVec 32 := Scalar.addi v1413 c4_i32_609
  let c16_i32_610 : BitVec 32 := 16#32
  let c0_i32_611 : BitVec 32 := 0#32
  let v1415 : BitVec 1 := Scalar.cmpi .eq c16_i32_610 c0_i32_611
  let c1_i32_612 : BitVec 32 := 1#32
  let v1416 : BitVec 32 := Scalar.select v1415 c1_i32_612 c16_i32_610
  let v1417 : BitVec 32 := Scalar.remsi v1414 v1416
  let c0_i32_614 : BitVec 32 := 0#32
  let v1419 : BitVec 1 := Scalar.cmpi .slt v1417 c0_i32_614
  let c0_i32_615 : BitVec 32 := 0#32
  let v1420 : BitVec 1 := Scalar.cmpi .slt v1416 c0_i32_615
  let v1421 : BitVec 1 := Scalar.xori v1419 v1420
  let c0_i32_613 : BitVec 32 := 0#32
  let v1418 : BitVec 1 := Scalar.cmpi .ne v1417 c0_i32_613
  let v1422 : BitVec 1 := Scalar.andi v1421 v1418
  let v1423 : BitVec 32 := Scalar.addi v1417 v1416
  let v1424 : BitVec 32 := Scalar.select v1422 v1423 v1417
  let c1_i32_619 : BitVec 32 := 1#32
  let v1425 : BitVec 32 := Scalar.muli v1424 c1_i32_619
  let v1426 : BitVec 32 := Scalar.addi c0_i32_620 v1425
  v1426.toNat
def k0_dev21 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_625 : BitVec 32 := 1#32
  let v1434 : BitVec 32 := Scalar.addi v2 c1_i32_625
  let c5_i32_626 : BitVec 32 := 5#32
  let v1435 : BitVec 32 := Scalar.addi v1434 c5_i32_626
  let c16_i32_627 : BitVec 32 := 16#32
  let c0_i32_628 : BitVec 32 := 0#32
  let v1436 : BitVec 1 := Scalar.cmpi .eq c16_i32_627 c0_i32_628
  let c1_i32_629 : BitVec 32 := 1#32
  let v1437 : BitVec 32 := Scalar.select v1436 c1_i32_629 c16_i32_627
  let v1438 : BitVec 32 := Scalar.remsi v1435 v1437
  let c0_i32_631 : BitVec 32 := 0#32
  let v1440 : BitVec 1 := Scalar.cmpi .slt v1438 c0_i32_631
  let c0_i32_632 : BitVec 32 := 0#32
  let v1441 : BitVec 1 := Scalar.cmpi .slt v1437 c0_i32_632
  let v1442 : BitVec 1 := Scalar.xori v1440 v1441
  let c0_i32_630 : BitVec 32 := 0#32
  let v1439 : BitVec 1 := Scalar.cmpi .ne v1438 c0_i32_630
  let v1443 : BitVec 1 := Scalar.andi v1442 v1439
  let v1444 : BitVec 32 := Scalar.addi v1438 v1437
  let v1445 : BitVec 32 := Scalar.select v1443 v1444 v1438
  let c1_i32_636 : BitVec 32 := 1#32
  let v1446 : BitVec 32 := Scalar.muli v1445 c1_i32_636
  let v1447 : BitVec 32 := Scalar.addi c0_i32_637 v1446
  v1447.toNat
def k0_dev22 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_641 : BitVec 32 := 1#32
  let v1455 : BitVec 32 := Scalar.addi v2 c1_i32_641
  let c6_i32_642 : BitVec 32 := 6#32
  let v1456 : BitVec 32 := Scalar.addi v1455 c6_i32_642
  let c16_i32_643 : BitVec 32 := 16#32
  let c0_i32_644 : BitVec 32 := 0#32
  let v1457 : BitVec 1 := Scalar.cmpi .eq c16_i32_643 c0_i32_644
  let c1_i32_645 : BitVec 32 := 1#32
  let v1458 : BitVec 32 := Scalar.select v1457 c1_i32_645 c16_i32_643
  let v1459 : BitVec 32 := Scalar.remsi v1456 v1458
  let c0_i32_647 : BitVec 32 := 0#32
  let v1461 : BitVec 1 := Scalar.cmpi .slt v1459 c0_i32_647
  let c0_i32_648 : BitVec 32 := 0#32
  let v1462 : BitVec 1 := Scalar.cmpi .slt v1458 c0_i32_648
  let v1463 : BitVec 1 := Scalar.xori v1461 v1462
  let c0_i32_646 : BitVec 32 := 0#32
  let v1460 : BitVec 1 := Scalar.cmpi .ne v1459 c0_i32_646
  let v1464 : BitVec 1 := Scalar.andi v1463 v1460
  let v1465 : BitVec 32 := Scalar.addi v1459 v1458
  let v1466 : BitVec 32 := Scalar.select v1464 v1465 v1459
  let c1_i32_652 : BitVec 32 := 1#32
  let v1467 : BitVec 32 := Scalar.muli v1466 c1_i32_652
  let v1468 : BitVec 32 := Scalar.addi c0_i32_653 v1467
  v1468.toNat
def k0_dev23 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_657 : BitVec 32 := 1#32
  let v1476 : BitVec 32 := Scalar.addi v2 c1_i32_657
  let c7_i32_658 : BitVec 32 := 7#32
  let v1477 : BitVec 32 := Scalar.addi v1476 c7_i32_658
  let c16_i32_659 : BitVec 32 := 16#32
  let c0_i32_660 : BitVec 32 := 0#32
  let v1478 : BitVec 1 := Scalar.cmpi .eq c16_i32_659 c0_i32_660
  let c1_i32_661 : BitVec 32 := 1#32
  let v1479 : BitVec 32 := Scalar.select v1478 c1_i32_661 c16_i32_659
  let v1480 : BitVec 32 := Scalar.remsi v1477 v1479
  let c0_i32_663 : BitVec 32 := 0#32
  let v1482 : BitVec 1 := Scalar.cmpi .slt v1480 c0_i32_663
  let c0_i32_664 : BitVec 32 := 0#32
  let v1483 : BitVec 1 := Scalar.cmpi .slt v1479 c0_i32_664
  let v1484 : BitVec 1 := Scalar.xori v1482 v1483
  let c0_i32_662 : BitVec 32 := 0#32
  let v1481 : BitVec 1 := Scalar.cmpi .ne v1480 c0_i32_662
  let v1485 : BitVec 1 := Scalar.andi v1484 v1481
  let v1486 : BitVec 32 := Scalar.addi v1480 v1479
  let v1487 : BitVec 32 := Scalar.select v1485 v1486 v1480
  let c1_i32_668 : BitVec 32 := 1#32
  let v1488 : BitVec 32 := Scalar.muli v1487 c1_i32_668
  let v1489 : BitVec 32 := Scalar.addi c0_i32_669 v1488
  v1489.toNat
def k0_dev24 (d0 : Dev nD) : Nat :=
  let c0_i32_876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_864 : BitVec 32 := 1#32
  let v2036 : BitVec 32 := Scalar.addi v2 c1_i32_864
  let c8_i32_865 : BitVec 32 := 8#32
  let v2037 : BitVec 32 := Scalar.addi v2036 c8_i32_865
  let c16_i32_866 : BitVec 32 := 16#32
  let c0_i32_867 : BitVec 32 := 0#32
  let v2038 : BitVec 1 := Scalar.cmpi .eq c16_i32_866 c0_i32_867
  let c1_i32_868 : BitVec 32 := 1#32
  let v2039 : BitVec 32 := Scalar.select v2038 c1_i32_868 c16_i32_866
  let v2040 : BitVec 32 := Scalar.remsi v2037 v2039
  let c0_i32_870 : BitVec 32 := 0#32
  let v2042 : BitVec 1 := Scalar.cmpi .slt v2040 c0_i32_870
  let c0_i32_871 : BitVec 32 := 0#32
  let v2043 : BitVec 1 := Scalar.cmpi .slt v2039 c0_i32_871
  let v2044 : BitVec 1 := Scalar.xori v2042 v2043
  let c0_i32_869 : BitVec 32 := 0#32
  let v2041 : BitVec 1 := Scalar.cmpi .ne v2040 c0_i32_869
  let v2045 : BitVec 1 := Scalar.andi v2044 v2041
  let v2046 : BitVec 32 := Scalar.addi v2040 v2039
  let v2047 : BitVec 32 := Scalar.select v2045 v2046 v2040
  let c1_i32_875 : BitVec 32 := 1#32
  let v2048 : BitVec 32 := Scalar.muli v2047 c1_i32_875
  let v2049 : BitVec 32 := Scalar.addi c0_i32_876 v2048
  v2049.toNat
def k0_dev25 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_880 : BitVec 32 := 1#32
  let v2057 : BitVec 32 := Scalar.addi v2 c1_i32_880
  let c9_i32_881 : BitVec 32 := 9#32
  let v2058 : BitVec 32 := Scalar.addi v2057 c9_i32_881
  let c16_i32_882 : BitVec 32 := 16#32
  let c0_i32_883 : BitVec 32 := 0#32
  let v2059 : BitVec 1 := Scalar.cmpi .eq c16_i32_882 c0_i32_883
  let c1_i32_884 : BitVec 32 := 1#32
  let v2060 : BitVec 32 := Scalar.select v2059 c1_i32_884 c16_i32_882
  let v2061 : BitVec 32 := Scalar.remsi v2058 v2060
  let c0_i32_886 : BitVec 32 := 0#32
  let v2063 : BitVec 1 := Scalar.cmpi .slt v2061 c0_i32_886
  let c0_i32_887 : BitVec 32 := 0#32
  let v2064 : BitVec 1 := Scalar.cmpi .slt v2060 c0_i32_887
  let v2065 : BitVec 1 := Scalar.xori v2063 v2064
  let c0_i32_885 : BitVec 32 := 0#32
  let v2062 : BitVec 1 := Scalar.cmpi .ne v2061 c0_i32_885
  let v2066 : BitVec 1 := Scalar.andi v2065 v2062
  let v2067 : BitVec 32 := Scalar.addi v2061 v2060
  let v2068 : BitVec 32 := Scalar.select v2066 v2067 v2061
  let c1_i32_891 : BitVec 32 := 1#32
  let v2069 : BitVec 32 := Scalar.muli v2068 c1_i32_891
  let v2070 : BitVec 32 := Scalar.addi c0_i32_892 v2069
  v2070.toNat
def k0_dev26 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_896 : BitVec 32 := 1#32
  let v2078 : BitVec 32 := Scalar.addi v2 c1_i32_896
  let c10_i32_897 : BitVec 32 := 10#32
  let v2079 : BitVec 32 := Scalar.addi v2078 c10_i32_897
  let c16_i32_898 : BitVec 32 := 16#32
  let c0_i32_899 : BitVec 32 := 0#32
  let v2080 : BitVec 1 := Scalar.cmpi .eq c16_i32_898 c0_i32_899
  let c1_i32_900 : BitVec 32 := 1#32
  let v2081 : BitVec 32 := Scalar.select v2080 c1_i32_900 c16_i32_898
  let v2082 : BitVec 32 := Scalar.remsi v2079 v2081
  let c0_i32_902 : BitVec 32 := 0#32
  let v2084 : BitVec 1 := Scalar.cmpi .slt v2082 c0_i32_902
  let c0_i32_903 : BitVec 32 := 0#32
  let v2085 : BitVec 1 := Scalar.cmpi .slt v2081 c0_i32_903
  let v2086 : BitVec 1 := Scalar.xori v2084 v2085
  let c0_i32_901 : BitVec 32 := 0#32
  let v2083 : BitVec 1 := Scalar.cmpi .ne v2082 c0_i32_901
  let v2087 : BitVec 1 := Scalar.andi v2086 v2083
  let v2088 : BitVec 32 := Scalar.addi v2082 v2081
  let v2089 : BitVec 32 := Scalar.select v2087 v2088 v2082
  let c1_i32_907 : BitVec 32 := 1#32
  let v2090 : BitVec 32 := Scalar.muli v2089 c1_i32_907
  let v2091 : BitVec 32 := Scalar.addi c0_i32_908 v2090
  v2091.toNat
def k0_dev27 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_912 : BitVec 32 := 1#32
  let v2099 : BitVec 32 := Scalar.addi v2 c1_i32_912
  let c11_i32_913 : BitVec 32 := 11#32
  let v2100 : BitVec 32 := Scalar.addi v2099 c11_i32_913
  let c16_i32_914 : BitVec 32 := 16#32
  let c0_i32_915 : BitVec 32 := 0#32
  let v2101 : BitVec 1 := Scalar.cmpi .eq c16_i32_914 c0_i32_915
  let c1_i32_916 : BitVec 32 := 1#32
  let v2102 : BitVec 32 := Scalar.select v2101 c1_i32_916 c16_i32_914
  let v2103 : BitVec 32 := Scalar.remsi v2100 v2102
  let c0_i32_918 : BitVec 32 := 0#32
  let v2105 : BitVec 1 := Scalar.cmpi .slt v2103 c0_i32_918
  let c0_i32_919 : BitVec 32 := 0#32
  let v2106 : BitVec 1 := Scalar.cmpi .slt v2102 c0_i32_919
  let v2107 : BitVec 1 := Scalar.xori v2105 v2106
  let c0_i32_917 : BitVec 32 := 0#32
  let v2104 : BitVec 1 := Scalar.cmpi .ne v2103 c0_i32_917
  let v2108 : BitVec 1 := Scalar.andi v2107 v2104
  let v2109 : BitVec 32 := Scalar.addi v2103 v2102
  let v2110 : BitVec 32 := Scalar.select v2108 v2109 v2103
  let c1_i32_923 : BitVec 32 := 1#32
  let v2111 : BitVec 32 := Scalar.muli v2110 c1_i32_923
  let v2112 : BitVec 32 := Scalar.addi c0_i32_924 v2111
  v2112.toNat
def k0_dev28 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1119 : BitVec 32 := 1#32
  let v2659 : BitVec 32 := Scalar.addi v2 c1_i32_1119
  let c12_i32_1120 : BitVec 32 := 12#32
  let v2660 : BitVec 32 := Scalar.addi v2659 c12_i32_1120
  let c16_i32_1121 : BitVec 32 := 16#32
  let c0_i32_1122 : BitVec 32 := 0#32
  let v2661 : BitVec 1 := Scalar.cmpi .eq c16_i32_1121 c0_i32_1122
  let c1_i32_1123 : BitVec 32 := 1#32
  let v2662 : BitVec 32 := Scalar.select v2661 c1_i32_1123 c16_i32_1121
  let v2663 : BitVec 32 := Scalar.remsi v2660 v2662
  let c0_i32_1125 : BitVec 32 := 0#32
  let v2665 : BitVec 1 := Scalar.cmpi .slt v2663 c0_i32_1125
  let c0_i32_1126 : BitVec 32 := 0#32
  let v2666 : BitVec 1 := Scalar.cmpi .slt v2662 c0_i32_1126
  let v2667 : BitVec 1 := Scalar.xori v2665 v2666
  let c0_i32_1124 : BitVec 32 := 0#32
  let v2664 : BitVec 1 := Scalar.cmpi .ne v2663 c0_i32_1124
  let v2668 : BitVec 1 := Scalar.andi v2667 v2664
  let v2669 : BitVec 32 := Scalar.addi v2663 v2662
  let v2670 : BitVec 32 := Scalar.select v2668 v2669 v2663
  let c1_i32_1130 : BitVec 32 := 1#32
  let v2671 : BitVec 32 := Scalar.muli v2670 c1_i32_1130
  let v2672 : BitVec 32 := Scalar.addi c0_i32_1131 v2671
  v2672.toNat
def k0_dev29 (d0 : Dev nD) : Nat :=
  let c0_i32_1147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1135 : BitVec 32 := 1#32
  let v2680 : BitVec 32 := Scalar.addi v2 c1_i32_1135
  let c13_i32_1136 : BitVec 32 := 13#32
  let v2681 : BitVec 32 := Scalar.addi v2680 c13_i32_1136
  let c16_i32_1137 : BitVec 32 := 16#32
  let c0_i32_1138 : BitVec 32 := 0#32
  let v2682 : BitVec 1 := Scalar.cmpi .eq c16_i32_1137 c0_i32_1138
  let c1_i32_1139 : BitVec 32 := 1#32
  let v2683 : BitVec 32 := Scalar.select v2682 c1_i32_1139 c16_i32_1137
  let v2684 : BitVec 32 := Scalar.remsi v2681 v2683
  let c0_i32_1141 : BitVec 32 := 0#32
  let v2686 : BitVec 1 := Scalar.cmpi .slt v2684 c0_i32_1141
  let c0_i32_1142 : BitVec 32 := 0#32
  let v2687 : BitVec 1 := Scalar.cmpi .slt v2683 c0_i32_1142
  let v2688 : BitVec 1 := Scalar.xori v2686 v2687
  let c0_i32_1140 : BitVec 32 := 0#32
  let v2685 : BitVec 1 := Scalar.cmpi .ne v2684 c0_i32_1140
  let v2689 : BitVec 1 := Scalar.andi v2688 v2685
  let v2690 : BitVec 32 := Scalar.addi v2684 v2683
  let v2691 : BitVec 32 := Scalar.select v2689 v2690 v2684
  let c1_i32_1146 : BitVec 32 := 1#32
  let v2692 : BitVec 32 := Scalar.muli v2691 c1_i32_1146
  let v2693 : BitVec 32 := Scalar.addi c0_i32_1147 v2692
  v2693.toNat
def k0_dev30 (d0 : Dev nD) : Nat :=
  let c0_i32_1163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1151 : BitVec 32 := 1#32
  let v2701 : BitVec 32 := Scalar.addi v2 c1_i32_1151
  let c14_i32_1152 : BitVec 32 := 14#32
  let v2702 : BitVec 32 := Scalar.addi v2701 c14_i32_1152
  let c16_i32_1153 : BitVec 32 := 16#32
  let c0_i32_1154 : BitVec 32 := 0#32
  let v2703 : BitVec 1 := Scalar.cmpi .eq c16_i32_1153 c0_i32_1154
  let c1_i32_1155 : BitVec 32 := 1#32
  let v2704 : BitVec 32 := Scalar.select v2703 c1_i32_1155 c16_i32_1153
  let v2705 : BitVec 32 := Scalar.remsi v2702 v2704
  let c0_i32_1157 : BitVec 32 := 0#32
  let v2707 : BitVec 1 := Scalar.cmpi .slt v2705 c0_i32_1157
  let c0_i32_1158 : BitVec 32 := 0#32
  let v2708 : BitVec 1 := Scalar.cmpi .slt v2704 c0_i32_1158
  let v2709 : BitVec 1 := Scalar.xori v2707 v2708
  let c0_i32_1156 : BitVec 32 := 0#32
  let v2706 : BitVec 1 := Scalar.cmpi .ne v2705 c0_i32_1156
  let v2710 : BitVec 1 := Scalar.andi v2709 v2706
  let v2711 : BitVec 32 := Scalar.addi v2705 v2704
  let v2712 : BitVec 32 := Scalar.select v2710 v2711 v2705
  let c1_i32_1162 : BitVec 32 := 1#32
  let v2713 : BitVec 32 := Scalar.muli v2712 c1_i32_1162
  let v2714 : BitVec 32 := Scalar.addi c0_i32_1163 v2713
  v2714.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1167 : BitVec 32 := 128#32
  let v2722 : BitVec 32 := Scalar.muli v2 c128_i32_1167
  let v2723 : Index := Scalar.indexCast v2722
  let c0_1168 : Index := 0#32
  ![v2723.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1169 : BitVec 32 := 128#32
  let v2726 : BitVec 32 := Scalar.muli v2 c128_i32_1169
  let v2727 : Index := Scalar.indexCast v2726
  let c0_1170 : Index := 0#32
  ![v2727.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S512x1024 : Shape := ⟨2, ![512, 1024]⟩
abbrev S2048x128 : Shape := ⟨2, ![2048, 128]⟩
abbrev S_ : Shape := ⟨0, ![]⟩
abbrev S2048 : Shape := ⟨1, ![2048]⟩
abbrev S2048x1024 : Shape := ⟨2, ![2048, 1024]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S128x512x1024, .bf16⟩
  | .hbm, ⟨4, _⟩ => ⟨S512x1024, .bf16⟩
  | .hbm, ⟨5, _⟩ => ⟨S2048x512, .f32⟩
  | .hbm, ⟨6, _⟩ => ⟨S512x128, .f32⟩
  | .hbm, ⟨7, _⟩ => ⟨S128x512x1024, .f32⟩
  | .hbm, ⟨8, _⟩ => ⟨S512x1024, .f32⟩
  | .hbm, ⟨9, _⟩ => ⟨S2048x128, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x128, .f32⟩
  | .hbm, ⟨20, _⟩ => ⟨S2048x128, .f32⟩
  | .hbm, ⟨21, _⟩ => ⟨S2048x1024, .f32⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S2048x1x1, .i32⟩
  | .hbm, ⟨30, _⟩ => ⟨S1, .i32⟩
  | .hbm, ⟨31, _⟩ => ⟨S_, .i32⟩
  | .hbm, ⟨32, _⟩ => ⟨S2048x1x1, .i32⟩
  | .hbm, ⟨33, _⟩ => ⟨S2048x1x1, .i1⟩
  | .hbm, ⟨34, _⟩ => ⟨S1x1x1, .i32⟩
  | .hbm, ⟨35, _⟩ => ⟨S2048x1x1, .i32⟩
  | .hbm, ⟨36, _⟩ => ⟨S2048x1x1, .i1⟩
  | .hbm, ⟨37, _⟩ => ⟨S2048x1x1, .i1⟩
  | .hbm, ⟨38, _⟩ => ⟨S_, .i1⟩
  | .hbm, ⟨39, _⟩ => ⟨S2048x1, .i1⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048x512x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Prog.lean ====
/-
# The kernel body as a program of loops

`body` is what one device runs, written as a program over the lists of its steps: fifteen signals, the
staging of the operands, four groups of four packed chunks with their sends, fifteen receives, fifteen waits.
The pure values are named by what they compute: `gateOf`, `packed`, `product`, `scattered`.
`body_eq` says the printed body is this program.
-/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.ShloMosaic.TcCoe Idealize.SL.Sem

variable {F : FTy → Type} [FloatOps F]

/-! ## Buffers and semaphores -/

abbrev xM : Memref sig .tc .vmem S2048x512 .bf16 := Memref.whole cc0_stg0_0
abbrev rwM : Memref sig .tc .vmem S512x128 .bf16 := Memref.whole cc0_stg1_0
abbrev ixM : Memref sig .tc .vmem S2048x1 .i32 := Memref.whole cc0_stg2_0
abbrev eM : Memref sig .tc .vmem S8x512x1024 .bf16 := Memref.whole cc0_stg3_0
abbrev swM : Memref sig .tc .vmem S512x1024 .bf16 := Memref.whole cc0_stg4_0
abbrev outM : Memref sig .tc .vmem S128x1024 .f32 := Memref.whole cc0_stg5_0
abbrev gM : Memref sig .tc .vmem S2048x128 .f32 := Memref.whole cc0_scratch0
abbrev xbM : Memref sig .tc .vmem S2048x512 .bf16 := Memref.whole cc0_scratch1
abbrev ebM : Memref sig .tc .vmem S4096x1024 .bf16 := Memref.whole cc0_scratch2
abbrev sbM : Memref sig .tc .vmem S512x1024 .bf16 := Memref.whole cc0_scratch3
abbrev ygM : Memref sig .tc .vmem S512x4096 .bf16 := Memref.whole cc0_scratch4
abbrev ybM : Memref sig .tc .vmem S512x1024 .bf16 := Memref.whole cc0_scratch5
abbrev rvM : Memref sig .tc .vmem S15x32x1024 .bf16 := Memref.whole cc0_scratch6

/-- The barrier semaphore shared by the devices. -/
abbrev barS : Sem sig := (SemArray.scalar (sig.barrier 0 rfl) : Sems sig S_).sem

theorem inb_sem (i : Fin 15) : ∀ a, (![i.val] : Fin 1 → Nat) a + S1.size a ≤ S15.size a := by revert i; decide

/-- The semaphore that counts send `i` as done. -/
abbrev sendS (i : Fin 15) : DmaSem sig :=
  (((cc0_scratch7 : DmaSems sig S15).slice (Rect.unit (s := S15) ![i.val] S1.size (inb_sem i))).squeeze S_ squeezes_S1_S_).sem
/-- The semaphore that counts what lands in slot `k`. -/
abbrev recvS (k : Fin 15) : DmaSem sig :=
  (((cc0_scratch8 : DmaSems sig S15).slice (Rect.unit (s := S15) ![k.val] S1.size (inb_sem k))).squeeze S_ squeezes_S1_S_).sem

/-! ## Rectangles -/

theorem inb_yg (s : Fin 16) : ∀ a, (![32 * s.val, 0] : Fin 2 → Nat) a + S32x4096.size a ≤ S512x4096.size a := by revert s; decide
theorem inb_yb (s : Fin 16) : ∀ a, (![32 * s.val, 0] : Fin 2 → Nat) a + S32x1024.size a ≤ S512x1024.size a := by revert s; decide
theorem inb_ygG (g : Fin 4) : ∀ a, (![128 * g.val, 0] : Fin 2 → Nat) a + S128x4096.size a ≤ S512x4096.size a := by revert g; decide
theorem inb_ybG (g : Fin 4) : ∀ a, (![128 * g.val, 0] : Fin 2 → Nat) a + S128x1024.size a ≤ S512x1024.size a := by revert g; decide
theorem inb_rv (k : Fin 15) : ∀ a, (![k.val, 0, 0] : Fin 3 → Nat) a + S1x32x1024.size a ≤ S15x32x1024.size a := by revert k; decide

/-- Rows `32 s ..` of the packed tokens, of the packed products; rows `128 g ..` of either; slot `k`. -/
abbrev ygR (s : Fin 16) : Rect S512x4096 := Rect.unit (s := S512x4096) ![32 * s.val, 0] S32x4096.size (inb_yg s)
abbrev ybR (s : Fin 16) : Rect S512x1024 := Rect.unit (s := S512x1024) ![32 * s.val, 0] S32x1024.size (inb_yb s)
abbrev ygG (g : Fin 4) : Rect S512x4096 := Rect.unit (s := S512x4096) ![128 * g.val, 0] S128x4096.size (inb_ygG g)
abbrev ybG (g : Fin 4) : Rect S512x1024 := Rect.unit (s := S512x1024) ![128 * g.val, 0] S128x1024.size (inb_ybG g)
abbrev rvR (k : Fin 15) : Rect S15x32x1024 := Rect.unit (s := S15x32x1024) ![k.val, 0, 0] S1x32x1024.size (inb_rv k)

/-- Rows of the tokens, of the gates, of the routes, that chunk `s` of device `d` works on; the device's own. -/
abbrev xR (d : Dev nD) (s : Fin 16) : Rect S2048x512 :=
  Rect.unit (s := S2048x512) (k0_off1 d (BitVec.ofNat 32 s.val)) S128x512.size (k0_off1_inb d s)
abbrev gR (d : Dev nD) (s : Fin 16) : Rect S2048x128 :=
  Rect.unit (s := S2048x128) (k0_off2 d (BitVec.ofNat 32 s.val)) S128x128.size (k0_off2_inb d s)
abbrev iR (d : Dev nD) (s : Fin 16) : Rect S2048x1 :=
  Rect.unit (s := S2048x1) (k0_off3 d (BitVec.ofNat 32 s.val)) S128x1.size (k0_off3_inb d s)
abbrev iOwn (d : Dev nD) : Rect S2048x1 := Rect.unit (s := S2048x1) (k0_off4 d) S128x1.size (k0_off4_inb d)
abbrev xOwn (d : Dev nD) : Rect S2048x512 := Rect.unit (s := S2048x512) (k0_off5 d) S128x512.size (k0_off5_inb d)

theorem packed_yg (s : Fin 16) : (ygR s).PackedRows (EltTy.packing .bf16) := by revert s; decide
theorem packed_ybG (g : Fin 4) : (ybG g).PackedRows (EltTy.packing .bf16) := by revert g; decide
theorem words_yb (s : Fin 16) : (ybR s).WholeWords (EltTy.packing .bf16) := by revert s; decide
theorem words_rv (k : Fin 15) : (rvR k).WholeWords (EltTy.packing .bf16) := by revert k; decide

/-- The rows send `i` reads; the slot `k` as a 32 x 1024 buffer. -/
abbrev rowsM (s : Fin 16) : Memref sig .tc .vmem S32x1024 .bf16 := ybM.slice (ybR s) (fun _ => rfl)
abbrev slotM (k : Fin 15) : Memref sig .tc .vmem S32x1024 .bf16 :=
  (rvM.slice (rvR k) (fun _ => rfl)).squeeze S32x1024 squeezes_S1x32x1024_S32x1024

/-! ## Devices -/

/-- The device the `i`-th signal goes to, and the device of the `i`-th send. -/
def sigDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩]
def sendDev (d : Dev nD) : Fin 15 → Dev nD :=
  ![⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩]

/-- Send `i` lands in slot `14 - i` of its device; slot `k` is filled by send `14 - k`. -/
abbrev opp (i : Fin 15) : Fin 15 := ⟨14 - i.val, by omega⟩
/-- The chunk a device keeps. -/
abbrev ownChunk : Fin 16 := ⟨15, by decide⟩
/-- The chunk of send `i`. -/
abbrev chunkOf (i : Fin 15) : Fin 16 := ⟨i.val, by omega⟩

/-! ## Pure values -/

/-- The device's number as the kernel computes it, its first expert, and the first expert of the device `k + 1` after it. -/
abbrev devWord (d : Dev nD) : BitVec 32 := Scalar.remsi (Scalar.divsi (Dev.word d) 1#32) 16#32
abbrev loWord (d : Dev nD) : BitVec 32 := Scalar.muli (devWord d) 8#32
def wrap16 (a : BitVec 32) : BitVec 32 :=
  let n : BitVec 32 := Scalar.select (Scalar.cmpi .eq 16#32 0#32) 1#32 16#32
  let r : BitVec 32 := Scalar.remsi a n
  Scalar.select (Scalar.andi (Scalar.xori (Scalar.cmpi .slt r 0#32) (Scalar.cmpi .slt n 0#32)) (Scalar.cmpi .ne r 0#32)) (Scalar.addi r n) r
def loFrom (d : Dev nD) (k : Fin 15) : BitVec 32 :=
  Scalar.muli (wrap16 (Scalar.addi (Scalar.addi (devWord d) 1#32) (BitVec.ofNat 32 k.val))) 8#32

/-- Softmax of the router's scores, kept at each token's own expert and zero elsewhere. -/
def gateOf (x : Vec F S2048x512 .bf16) (rw : Vec F S512x128 .bf16) (ix : Vec F S2048x1 .i32) : FVec F S2048x128 .f32 :=
  k0_pay6 (k0_pay4 x rw) (k0_pay5 x rw) ix

/-- Which of 128 tokens go to the eight experts from `lo`, as zeros and ones. -/
def member (lo : BitVec 32) (rt : IVec S128x1 32) : FVec F S128x1 .f32 :=
  sitofp .f32 (extui 32 (andi (cmpi .sge rt (broadcast S128x1 lo)) (cmpi .slt rt (broadcast S128x1 (Scalar.addi lo 8#32)))) natLt_1_32)

/-- How many of them come no later than each token. -/
def upTo (mem : FVec F S128x1 .f32) : FVec F S128x1 .f32 :=
  matmul dot_S128x128_S128x1_S128x1_1_0_0_1_n_n none k0_pay7 mem (constant S128x1 .f32 0x00000000#32)

/-- A column laid out as the 32 equal rows of a 32 x 128 array. -/
def asRow (v : FVec F S128x1 .f32) : FVec F S32x128 .f32 :=
  matmul dot_S32x128_S128x128_S32x128_1_0_0_1_n_n none k0_pay9
    (mulf k0_pay8 (broadcastTo S128x128 v broadcasts_S128x1_S128x128)) (constant S32x128 .f32 0x00000000#32)

/-- Which token stands in each of the 32 rows. -/
def gather (mem : FVec F S128x1 .f32) : FVec F S32x128 .bf16 :=
  truncf .bf16 (sitofp .f32 (extui 32
    (andi (cmpi .eq (iota .tc S32x128 32 [0] iota_S32x128_d0_w32) (subi (fptosi 32 (asRow (upTo mem))) (broadcast S32x128 1#32)))
      (cmpf .ogt (asRow mem) (broadcast S32x128 (Scalar.ofBits .f32 0x3F000000#32)))) natLt_1_32)) bitsLt_bf16_f32

/-- The tokens scaled by their gate at the `j`-th expert. -/
def scaled (lo j : BitVec 32) (xs : Vec F S128x512 .bf16) (g : Vec F S128x128 .f32) : FVec F S128x512 .bf16 :=
  mulf xs (broadcastTo S128x512 (truncf .bf16 (shapeCast S128x1 (multiReduction .add [1] S128
    (select (cmpi .eq (iota .tc S128x128 32 [1] iota_S128x128_d1_w32) (broadcast S128x128 (Scalar.addi lo j))) g
      (broadcast S128x128 (Scalar.ofBits .f32 0x00000000#32))) 0x00000000#32 reduces_S128x128_S128 (.inl rfl) rfl)
    shapeCasts_S128_S128x1) bitsLt_bf16_f32) broadcasts_S128x1_S128x512)

/-- The eight scaled copies side by side. -/
def sideBySide (lo : BitVec 32) (xs : Vec F S128x512 .bf16) (g : Vec F S128x128 .f32) : FVec F S128x4096 .bf16 :=
  concatenate S128x4096 1 [⟨S128x512, scaled lo 0#32 xs g⟩, ⟨S128x512, scaled lo 1#32 xs g⟩, ⟨S128x512, scaled lo 2#32 xs g⟩,
    ⟨S128x512, scaled lo 3#32 xs g⟩, ⟨S128x512, scaled lo 4#32 xs g⟩, ⟨S128x512, scaled lo 5#32 xs g⟩,
    ⟨S128x512, scaled lo 6#32 xs g⟩, ⟨S128x512, scaled lo 7#32 xs g⟩]
    concatenates_S128x512_S128x512_S128x512_S128x512_S128x512_S128x512_S128x512_S128x512_S128x4096_d1

/-- A chunk's tokens packed into 32 rows. -/
def packed (lo : BitVec 32) (xs : Vec F S128x512 .bf16) (g : Vec F S128x128 .f32) (rt : Vec F S128x1 .i32) : FVec F S32x4096 .bf16 :=
  shapeCast S32x4096 (truncf .bf16 (matmul dot_S32x128_S128x4096_S32x4096_1_0_0_1_n_n none
    (gather (member lo (shapeCast S128x1 rt shapeCasts_S128x1_S128x1))) (sideBySide lo xs g)
    (constant S32x4096 .f32 0x00000000#32)) bitsLt_bf16_f32) shapeCasts_S32x4096_S32x4096

/-- Four packed chunks times the device's experts. -/
def product (y : Vec F S128x4096 .bf16) (w : Vec F S4096x1024 .bf16) : FVec F S128x1024 .bf16 := k0_pay44 y w

/-- Which of the 32 rows each token reads back. -/
def spread (mem : FVec F S128x1 .f32) : FVec F S128x32 .bf16 :=
  truncf .bf16 (sitofp .f32 (extui 32
    (andi (cmpi .eq (iota .tc S128x32 32 [1] iota_S128x32_d1_w32)
        (broadcastTo S128x32 (subi (fptosi 32 (upTo mem)) (broadcast S128x1 1#32)) broadcasts_S128x1_S128x32))
      (broadcastTo S128x32 (cmpf .ogt mem (broadcast S128x1 (Scalar.ofBits .f32 0x3F000000#32))) broadcasts_S128x1_S128x32)) natLt_1_32)) bitsLt_bf16_f32

/-- 32 rows put back at their tokens and added to `acc`. -/
def scattered (lo : BitVec 32) (rt : Vec F S128x1 .i32) (acc : FVec F S128x1024 .f32) (v : FVec F S32x1024 .bf16) : FVec F S128x1024 .f32 :=
  addf acc (matmul dot_S128x32_S32x1024_S128x1024_1_0_0_1_n_n none (spread (member lo (shapeCast S128x1 rt shapeCasts_S128x1_S128x1)))
    v (constant S128x1024 .f32 0x00000000#32))

def slotVal (v : Vec F S1x32x1024 .bf16) : FVec F S32x1024 .bf16 := shapeCast S32x1024 v shapeCasts_S1x32x1024_S32x1024

/-! ## The program -/

abbrev Pg (F : FTy → Type) [FloatOps F] := Prog (TpuEff nD τ sig (Elt F) Λ₀ .tc) PUnit

/-- Signal each of the other devices. -/
def signals (d : Dev nD) : List (Fin 15) → Pg F → Pg F
  | [], k => k
  | i :: l, k => Prog.op (.semSignal ((sigDev d i : Dev nD), .tc) barS (1#32 : BitVec 32).toInt) fun _ => signals d l k

/-- Read a whole buffer; write one. -/
abbrev loadAll {s : Shape} {e : EltTy} (m : Memref sig .tc .vmem s e) (r : Rect s) (h : 0 < r.shape.numel) (k : (r.shape.Idx → Elt F e) → Pg F) : Pg F :=
  Prog.op (.load m r.toLoadRect (View.loadsAt_vmem h)) k

/-- Pack chunk `s`. -/
def chunk (d : Dev nD) (s : Fin 16) (k : Pg F) : Pg F :=
  Prog.op (.load xbM (xR d s).toLoadRect (View.loadsAt_vmem h_S128x512)) fun xs =>
  Prog.op (.load gM (gR d s).toLoadRect (View.loadsAt_vmem h_S128x128)) fun g =>
  Prog.op (.load ixM (iR d s).toLoadRect (View.loadsAt_vmem h_S128x1)) fun rt =>
  Prog.op (.load ygM (ygR s).toLoadRect (View.loadsAt_vmem h_S32x4096)) fun _ =>
  Prog.op (.store ygM (ygR s) (packed (loWord d) xs g rt) Finset.univ
    (View.stores_vmem h_S32x4096 ((Memref.isWhole_whole _).storeExact_slice rfl _ (packed_yg s)) (fun _ => rfl)) (.inl rfl)) fun _ => k

def chunks (d : Dev nD) : List (Fin 16) → Pg F → Pg F
  | [], k => k
  | s :: l, k => chunk d s (chunks d l k)

/-- Multiply group `g`. -/
def groupProd (g : Fin 4) (k : Pg F) : Pg F :=
  Prog.op (.load ygM (ygG g).toLoadRect (View.loadsAt_vmem h_S128x4096)) fun y =>
  Prog.op (.load ebM (Rect.unit (s := S4096x1024) ![0, 0] S4096x1024.size inb_S4096x1024_S4096x1024_0_0).toLoadRect (View.loadsAt_vmem h_S4096x1024)) fun w =>
  Prog.op (.load ybM (ybG g).toLoadRect (View.loadsAt_vmem h_S128x1024)) fun _ =>
  Prog.op (.store ybM (ybG g) (product y w) Finset.univ
    (View.stores_vmem h_S128x1024 ((Memref.isWhole_whole _).storeExact_slice rfl _ (packed_ybG g)) (fun _ => rfl)) (.inl rfl)) fun _ => k

/-- Send chunk `i`'s rows. -/
def sends (d : Dev nD) : List (Fin 15) → Pg F → Pg F
  | [], k => k
  | i :: l, k => Prog.op (.enqueueDma (rowsM (chunkOf i)) (.remote (Dev.tc (sendDev d i)) (slotM (opp i)) (.dma (sendS i))) (.dma (recvS (opp i)))
      ((Memref.isWhole_whole _).wordExact_slice rfl _ (words_yb (chunkOf i)))
      (((Memref.isWhole_whole _).wordExact_slice rfl _ (words_rv (opp i))).reshape _ _) ⟨⟨rfl, Or.inl rfl⟩, trivial⟩) fun _ => sends d l k

/-- Wait for slot `k` and add what came. -/
def recvs (d : Dev nD) (rt : Vec F S128x1 .i32) : List (Fin 15) → FVec F S128x1024 .f32 → (FVec F S128x1024 .f32 → Pg F) → Pg F
  | [], acc, k => k acc
  | j :: l, acc, k =>
    Prog.op (.waitDma2 (recvS j) (slotM j) (slotM j) (((Memref.isWhole_whole _).wordExact_slice rfl _ (words_rv j)).reshape _ _)
      (((Memref.isWhole_whole _).wordExact_slice rfl _ (words_rv j)).reshape _ _)) fun _ =>
    Prog.op (.load rvM (rvR j).toLoadRect (View.loadsAt_vmem h_S1x32x1024)) fun (v : Vec F S1x32x1024 .bf16) =>
    recvs d rt l (scattered (loFrom d j) rt acc (slotVal v)) k

/-- Wait for the sends. -/
def sent : List (Fin 15) → Pg F → Pg F
  | [], k => k
  | i :: l, k => Prog.op (.waitDma2 (sendS i) (slotM (opp i)) (rowsM (chunkOf i))
      (((Memref.isWhole_whole _).wordExact_slice rfl _ (words_rv (opp i))).reshape _ _)
      ((Memref.isWhole_whole _).wordExact_slice rfl _ (words_yb (chunkOf i)))) fun _ => sent l k

def fifteen : List (Fin 15) := [⟨0, by decide⟩, ⟨1, by decide⟩, ⟨2, by decide⟩, ⟨3, by decide⟩, ⟨4, by decide⟩, ⟨5, by decide⟩, ⟨6, by decide⟩,
  ⟨7, by decide⟩, ⟨8, by decide⟩, ⟨9, by decide⟩, ⟨10, by decide⟩, ⟨11, by decide⟩, ⟨12, by decide⟩, ⟨13, by decide⟩, ⟨14, by decide⟩]

/-- The chunks of a group; the sends of a group. -/
def chunksOf : Fin 4 → List (Fin 16)
  | ⟨0, _⟩ => [⟨0, by decide⟩, ⟨1, by decide⟩, ⟨2, by decide⟩, ⟨3, by decide⟩]
  | ⟨1, _⟩ => [⟨4, by decide⟩, ⟨5, by decide⟩, ⟨6, by decide⟩, ⟨7, by decide⟩]
  | ⟨2, _⟩ => [⟨8, by decide⟩, ⟨9, by decide⟩, ⟨10, by decide⟩, ⟨11, by decide⟩]
  | ⟨3, _⟩ => [⟨12, by decide⟩, ⟨13, by decide⟩, ⟨14, by decide⟩, ⟨15, by decide⟩]
def sendsOf : Fin 4 → List (Fin 15)
  | ⟨0, _⟩ => [⟨0, by decide⟩, ⟨1, by decide⟩, ⟨2, by decide⟩, ⟨3, by decide⟩]
  | ⟨1, _⟩ => [⟨4, by decide⟩, ⟨5, by decide⟩, ⟨6, by decide⟩, ⟨7, by decide⟩]
  | ⟨2, _⟩ => [⟨8, by decide⟩, ⟨9, by decide⟩, ⟨10, by decide⟩, ⟨11, by decide⟩]
  | ⟨3, _⟩ => [⟨12, by decide⟩, ⟨13, by decide⟩, ⟨14, by decide⟩]

/-- One group after another. -/
def group (d : Dev nD) (g : Fin 4) (k : Pg F) : Pg F := chunks d (chunksOf g) (groupProd g (sends d (sendsOf g) k))
def groups (d : Dev nD) : List (Fin 4) → Pg F → Pg F
  | [], k => k
  | g :: l, k => group d g (groups d l k)
def four : List (Fin 4) := [⟨0, by decide⟩, ⟨1, by decide⟩, ⟨2, by decide⟩, ⟨3, by decide⟩]

/-- Copy the operands in and compute the gates. -/
def stage (k : Pg F) : Pg F :=
  Prog.op (.load xM (Rect.unit (s := S2048x512) ![0, 0] S2048x512.size inb_S2048x512_S2048x512_0_0).toLoadRect (View.loadsAt_vmem h_S2048x512)) fun x =>
  Prog.op (.load xbM (Rect.unit (s := S2048x512) ![0, 0] S2048x512.size inb_S2048x512_S2048x512_0_0).toLoadRect (View.loadsAt_vmem h_S2048x512)) fun _ =>
  Prog.op (.store xbM (Rect.unit (s := S2048x512) ![0, 0] S2048x512.size inb_S2048x512_S2048x512_0_0) (k0_pay1 x) Finset.univ
    (View.stores_vmem h_S2048x512 ((Memref.isWhole_whole _).storeExact_slice rfl _ packedbf16_S2048x512_S2048x512_0_0) (fun _ => rfl)) (.inl rfl)) fun _ =>
  Prog.op (.load eM (Rect.unit (s := S8x512x1024) ![0, 0, 0] S8x512x1024.size inb_S8x512x1024_S8x512x1024_0_0_0).toLoadRect (View.loadsAt_vmem h_S8x512x1024)) fun e =>
  Prog.op (.load ebM (Rect.unit (s := S4096x1024) ![0, 0] S4096x1024.size inb_S4096x1024_S4096x1024_0_0).toLoadRect (View.loadsAt_vmem h_S4096x1024)) fun _ =>
  Prog.op (.store ebM (Rect.unit (s := S4096x1024) ![0, 0] S4096x1024.size inb_S4096x1024_S4096x1024_0_0) (k0_pay2 e) Finset.univ
    (View.stores_vmem h_S4096x1024 ((Memref.isWhole_whole _).storeExact_slice rfl _ packedbf16_S4096x1024_S4096x1024_0_0) (fun _ => rfl)) (.inl rfl)) fun _ =>
  Prog.op (.load swM (Rect.unit (s := S512x1024) ![0, 0] S512x1024.size inb_S512x1024_S512x1024_0_0).toLoadRect (View.loadsAt_vmem h_S512x1024)) fun w =>
  Prog.op (.load sbM (Rect.unit (s := S512x1024) ![0, 0] S512x1024.size inb_S512x1024_S512x1024_0_0).toLoadRect (View.loadsAt_vmem h_S512x1024)) fun _ =>
  Prog.op (.store sbM (Rect.unit (s := S512x1024) ![0, 0] S512x1024.size inb_S512x1024_S512x1024_0_0) (k0_pay3 w) Finset.univ
    (View.stores_vmem h_S512x1024 ((Memref.isWhole_whole _).storeExact_slice rfl _ packedbf16_S512x1024_S512x1024_0_0) (fun _ => rfl)) (.inl rfl)) fun _ =>
  Prog.op (.load xbM (Rect.unit (s := S2048x512) ![0, 0] S2048x512.size inb_S2048x512_S2048x512_0_0).toLoadRect (View.loadsAt_vmem h_S2048x512)) fun xb =>
  Prog.op (.load rwM (Rect.unit (s := S512x128) ![0, 0] S512x128.size inb_S512x128_S512x128_0_0).toLoadRect (View.loadsAt_vmem h_S512x128)) fun rw =>
  Prog.op (.load ixM (Rect.unit (s := S2048x1) ![0, 0] S2048x1.size inb_S2048x1_S2048x1_0_0).toLoadRect (View.loadsAt_vmem h_S2048x1)) fun ix =>
  Prog.op (.load gM (Rect.unit (s := S2048x128) ![0, 0] S2048x128.size inb_S2048x128_S2048x128_0_0).toLoadRect (View.loadsAt_vmem h_S2048x128)) fun _ =>
  Prog.op (.store gM (Rect.unit (s := S2048x128) ![0, 0] S2048x128.size inb_S2048x128_S2048x128_0_0) (gateOf xb rw ix) Finset.univ
    (View.stores_vmem_bits_univ h_S2048x128 rfl) (.inl rfl)) fun _ => k

/-- Add up the device's own rows: the shared expert, its own chunk, then what the others send. -/
def combine (d : Dev nD) (k : FVec F S128x1024 .f32 → Pg F) : Pg F :=
  Prog.op (.load ixM (iOwn d).toLoadRect (View.loadsAt_vmem h_S128x1)) fun rt =>
  Prog.op (.load xbM (xOwn d).toLoadRect (View.loadsAt_vmem h_S128x512)) fun xs =>
  Prog.op (.load sbM (Rect.unit (s := S512x1024) ![0, 0] S512x1024.size inb_S512x1024_S512x1024_0_0).toLoadRect (View.loadsAt_vmem h_S512x1024)) fun w =>
  Prog.op (.load ybM (ybR ownChunk).toLoadRect (View.loadsAt_vmem h_S32x1024)) fun (y : Vec F S32x1024 .bf16) =>
  recvs d rt fifteen (scattered (loWord d) rt (k0_pay175 xs w) y) k

/-- Write the device's rows. -/
def emit (out : FVec F S128x1024 .f32) (k : Pg F) : Pg F :=
  Prog.op (.load outM (Rect.unit (s := S128x1024) ![0, 0] S128x1024.size inb_S128x1024_S128x1024_0_0).toLoadRect (View.loadsAt_vmem h_S128x1024)) fun _ =>
  Prog.op (.store outM (Rect.unit (s := S128x1024) ![0, 0] S128x1024.size inb_S128x1024_S128x1024_0_0) out Finset.univ
    (View.stores_vmem_bits_univ h_S128x1024 rfl) (.inl rfl)) fun _ => k

/-- What one device runs. -/
def body : Pg F :=
  Prog.op .deviceId fun d =>
  signals d fifteen (Prog.op (.semWait barS (15#32 : BitVec 32).toInt) fun _ =>
  stage (groups d four (combine d fun out => emit out (sent fifteen (.ret ⟨⟩)))))

theorem op_cong {β : Type} {e : TpuEff nD τ sig (Elt F) Λ₀ .tc β} {k k' : β → Pg F} (h : ∀ v, k v = k' v) :
    (Prog.op e k : Pg F) = Prog.op e k' := by
  obtain rfl : k = k' := funext h
  rfl

set_option maxRecDepth 65536 in
set_option maxHeartbeats 4000000 in
theorem body_eq : cc0__body (F := F) xM (Memref.isWhole_whole _) rwM (Memref.isWhole_whole _) ixM (Memref.isWhole_whole _) eM (Memref.isWhole_whole _)
    swM (Memref.isWhole_whole _) outM (Memref.isWhole_whole _) gM (Memref.isWhole_whole _) xbM (Memref.isWhole_whole _) ebM (Memref.isWhole_whole _)
    sbM (Memref.isWhole_whole _) ygM (Memref.isWhole_whole _) ybM (Memref.isWhole_whole _) rvM (Memref.isWhole_whole _) cc0_scratch7 cc0_scratch8 = body := by
  iterate 193 refine op_cong (F := F) fun _ => ?_
  rfl

end Cert.Moe

end
-- ==== Proof.Protocol.lean ====
/-
# The protocol

Sixteen devices in a ring; `nb c i` is the device `i + 1` places after `c`. Every device signals the barrier
semaphore of each of the fifteen others and waits for fifteen signals, so that every landing slot is known to be
free; send `i` of device `c` goes to `nb c i` and lands in its slot `14 - i`; slot `k` of device `c` is filled by
`nb c k`.

- barrier cell of `c`: fifteen duties of one unit; duty `k` is paid by `nb c k` and hands over its slot `14 - k`.
- receive cell `k` of `c`: one duty, paid by `nb c k`'s copy; hands over slot `k` holding the rows sent.
- send cell `i` of `c`: one duty, paid by `c`'s own copy; hands the rows back.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 15)
abbrev UU : Type := UR sig nD τ × UB
abbrev MM (F : FTy → Type) : Type _ := MT nD τ sig Unit (Elt F) ℕ UU ℕ

abbrev EP : Emb (UR sig nD τ) (MM F) := embL
abbrev ER : Emb UB (MM F) := embR

/-! ## Neighbours -/

set_option backward.proofsInPublic true in
def nb (c : Dev nD) (i : Fin 15) : Dev nD := ⟨(c.val + 1 + i.val) % 16, Nat.mod_lt _ (by decide)⟩

theorem opp_opp (i : Fin 15) : opp (opp i) = i := by revert i; decide
theorem nb_nb (c : Dev nD) (i : Fin 15) : nb (nb c i) (opp i) = c := by revert c i; decide +kernel
theorem nb_nb' (c : Dev nD) (i : Fin 15) : nb (nb c (opp i)) i = c := by revert c i; decide +kernel
theorem sigDev_eq (c : Dev nD) (i : Fin 15) : sigDev c i = nb c i := by revert c i; decide +kernel
theorem sendDev_eq (c : Dev nD) (i : Fin 15) : sendDev c i = nb c i := by revert c i; decide +kernel

/-- A pair (device, peer) seen from the other side. -/
def swp : Dev nD × Fin 15 ≃ Dev nD × Fin 15 where
  toFun x := (nb x.1 x.2, opp x.2)
  invFun x := (nb x.1 x.2, opp x.2)
  left_inv x := Prod.ext (nb_nb x.1 x.2) (opp_opp x.2)
  right_inv x := Prod.ext (nb_nb x.1 x.2) (opp_opp x.2)

/-! ## Cells -/

abbrev barCell (c : Dev nD) : GSem nD τ sig := ((c : Thread nD τ), .reg barS)
abbrev sendCell (c : Dev nD) (i : Fin 15) : GSem nD τ sig := ((c : Thread nD τ), .dma (sendS i))
abbrev recvCell (c : Dev nD) (k : Fin 15) : GSem nD τ sig := ((c : Thread nD τ), .dma (recvS k))

/-- The semaphores of a device: the sends', the receives', the barrier. -/
abbrev osem : Bool × Fin 15 → SemLoc sig := fun x => if x.1 then .dma (recvS x.2) else .dma (sendS x.2)
abbrev csem : Option (Bool × Fin 15) → SemLoc sig := fun x => x.elim (.reg barS) osem
abbrev kcell (ck : Dev nD × Option (Bool × Fin 15)) : GSem nD τ sig := ((ck.1 : Thread nD τ), csem ck.2)

theorem sendS_inj {i j : Fin 15} (h : sendS i = sendS j) : i = j := by revert i j; decide
theorem recvS_inj {i j : Fin 15} (h : recvS i = recvS j) : i = j := by revert i j; decide
theorem send_ne_recv (i j : Fin 15) : sendS i ≠ recvS j := by revert i j; decide
theorem dma_ne_bar (q : DmaSem sig) : (SemLoc.dma q : SemLoc sig) ≠ .reg barS := fun h => by cases h
theorem dma_inj {q q' : DmaSem sig} (h : (SemLoc.dma q : SemLoc sig) = .dma q') : q = q' := by cases h; rfl

/-- The credit of one copy. -/
abbrev N : ℕ := (slotM 0).view.dmaCredit
theorem N_pos : 0 < N := View.dmaCredit_pos _ (by decide)
theorem credit_slot (k : Fin 15) : (slotM k).view.dmaCredit = N := rfl
theorem credit_rows (s : Fin 16) : (rowsM s).view.dmaCredit = N := rfl

/-! ## Contents and payloads -/

variable (Y : Dev nD → Vec F S512x1024 .bf16)

/-- The rows of device `c`'s products that chunk `s` takes. -/
def rowsOf (c : Dev nD) (s : Fin 16) : Vec F S32x1024 .bf16 := fun j => Y c ((ybR s).emb j)

/-- Slot `k` of device `c`, holding anything; holding what `nb c k` sends; the rows of send `i`. -/
def slotAny (c : Dev nD) (k : Fin 15) : sProp (MM F) := iprop(∃ X : Vec F S32x1024 .bf16, owns (c : Thread nD τ) (slotM k) fullShare X)
def slotFull (c : Dev nD) (k : Fin 15) : sProp (MM F) := owns (c : Thread nD τ) (slotM k) fullShare (rowsOf Y (nb c k) (chunkOf (opp k)))
def rowsFull (c : Dev nD) (s : Fin 16) : sProp (MM F) := owns (c : Thread nD τ) (rowsM s) fullShare (rowsOf Y c s)

def barPay (c : Dev nD) (k : Fin 15) : sProp (MM F) := iprop(slotAny (nb c k) (opp k) ∗ reached ER (recvCell (nb c k) (opp k)) 0)

omit [FloatOps F] in
instance barPay_storable (c : Dev nD) (k : Fin 15) : BI.Storable (upEmb : UEmb _ (MM F)) (barPay (F := F) c k) := by
  unfold barPay slotAny; infer_instance
omit [FloatOps F] in
instance slotFull_storable (c : Dev nD) (k : Fin 15) : BI.Storable (upEmb : UEmb _ (MM F)) (slotFull Y c k) := by
  unfold slotFull; infer_instance
omit [FloatOps F] in
instance rowsFull_storable (c : Dev nD) (s : Fin 16) : BI.Storable (upEmb : UEmb _ (MM F)) (rowsFull Y c s) := by
  unfold rowsFull; infer_instance

open Classical in
/-- One round: a barrier cell has fifteen duties of one unit, a send or receive cell one of a copy's credit. -/
def sched : Rounds.Schedule (GSem nD τ sig) (Fin 15) (MM F) where
  duties g r := if r = 0 ∧ g.1.2 = .tc then
      (if g.2 = .reg barS then Finset.univ else if (∃ i, g.2 = .dma (sendS i)) ∨ ∃ k, g.2 = .dma (recvS k) then {0} else ∅) else ∅
  unitless _ := False
  amount g _ _ := if g.2 = .reg barS then 1 else N
  payload g _ d :=
    if g.2 = .reg barS then barPay g.1.1 d
    else if h : ∃ k, g.2 = .dma (recvS k) then slotFull Y g.1.1 h.choose
    else if h : ∃ i, g.2 = .dma (sendS i) then rowsFull Y g.1.1 (chunkOf h.choose)
    else iprop(emp)
  amount_pos g _ _ _ := by
    by_cases h : g.2 = .reg barS
    · rw [if_pos h]; exact Nat.one_pos
    · rw [if_neg h]; exact N_pos

omit [FloatOps F] in
instance sched_payload_storable (g : GSem nD τ sig) (r : ℕ) (d : Fin 15) :
    BI.Storable (upEmb : UEmb _ (MM F)) ((sched Y).payload g r d) := by
  dsimp only [sched]
  (repeat' split) <;> infer_instance

section Sched
variable (c : Dev nD)

omit [FloatOps F] in
theorem duties_bar : (sched Y).duties (barCell c) 0 = Finset.univ := by
  dsimp only [sched]; rw [if_pos ⟨rfl, rfl⟩, if_pos rfl]
omit [FloatOps F] in
theorem duties_send (i : Fin 15) : (sched Y).duties (sendCell c i) 0 = {0} := by
  dsimp only [sched]; rw [if_pos ⟨rfl, rfl⟩, if_neg (dma_ne_bar _), if_pos (.inl ⟨i, rfl⟩)]
omit [FloatOps F] in
theorem duties_recv (k : Fin 15) : (sched Y).duties (recvCell c k) 0 = {0} := by
  dsimp only [sched]; rw [if_pos ⟨rfl, rfl⟩, if_neg (dma_ne_bar _), if_pos (.inr ⟨k, rfl⟩)]
omit [FloatOps F] in
theorem duties_later (g : GSem nD τ sig) : ∀ r, 1 ≤ r → (sched Y).duties g r = ∅ :=
  fun r hr => by dsimp only [sched]; rw [if_neg fun h => by omega]

omit [FloatOps F] in
theorem amount_bar (d : Fin 15) : (sched Y).amount (barCell c) 0 d = 1 := by dsimp only [sched]; exact if_pos rfl
omit [FloatOps F] in
theorem amount_dma (q : DmaSem sig) (d : Fin 15) : (sched Y).amount ((c : Thread nD τ), .dma q) 0 d = N := by
  dsimp only [sched]; exact if_neg (dma_ne_bar _)

omit [FloatOps F] in
theorem expect_bar : (sched Y).expect (barCell c) 0 = 15 := by
  unfold Schedule.expect Schedule.amountOf
  rw [duties_bar, Finset.sum_congr rfl fun d _ => amount_bar Y c d, Finset.sum_const, Finset.card_univ, Fintype.card_fin, smul_eq_mul]
omit [FloatOps F] in
theorem expect_send (i : Fin 15) : (sched Y).expect (sendCell c i) 0 = N := by
  unfold Schedule.expect Schedule.amountOf; rw [duties_send, Finset.sum_singleton, amount_dma]
omit [FloatOps F] in
theorem expect_recv (k : Fin 15) : (sched Y).expect (recvCell c k) 0 = N := by
  unfold Schedule.expect Schedule.amountOf; rw [duties_recv, Finset.sum_singleton, amount_dma]

omit [FloatOps F] in
theorem payload_bar (d : Fin 15) : (sched Y).payload (barCell c) 0 d = barPay c d := by dsimp only [sched]; rw [if_pos rfl]
omit [FloatOps F] in
theorem payload_recv (k d : Fin 15) : (sched Y).payload (recvCell c k) 0 d = slotFull Y c k := by
  have h : ∃ k', (SemLoc.dma (recvS k) : SemLoc sig) = .dma (recvS k') := ⟨k, rfl⟩
  dsimp only [sched]; rw [if_neg (dma_ne_bar _), dif_pos h, ← recvS_inj (dma_inj h.choose_spec)]
omit [FloatOps F] in
theorem payload_send (i d : Fin 15) : (sched Y).payload (sendCell c i) 0 d = rowsFull Y c (chunkOf i) := by
  have h : ∃ i', (SemLoc.dma (sendS i) : SemLoc sig) = .dma (sendS i') := ⟨i, rfl⟩
  dsimp only [sched]
  rw [if_neg (dma_ne_bar _), dif_neg (fun ⟨k, hk⟩ => send_ne_recv i k (dma_inj hk)), dif_pos h, ← sendS_inj (dma_inj h.choose_spec)]

theorem univ_fifteen : (Finset.univ : Finset (Fin 15)) = fifteen.toFinset := by decide
theorem nodup_fifteen : fifteen.Nodup := by decide
omit [FloatOps F] in
theorem bigSep_fifteen (Φ : Fin 15 → sProp (MM F)) : bigSep Finset.univ Φ = bigSepL fifteen Φ :=
  bigSep_univ_eq_bigSepL fifteen univ_fifteen nodup_fifteen Φ

omit [FloatOps F] in
theorem rest_bar : bigSep ((sched Y).duties (barCell c) 0 \ ∅) (fun d => (sched Y).payload (barCell c) 0 d) = bigSepL fifteen (barPay c) := by
  rw [Finset.sdiff_empty, duties_bar, bigSep_congr (fun d _ => payload_bar Y c d), bigSep_fifteen]
omit [FloatOps F] in
theorem rest_send (i : Fin 15) : bigSep ((sched Y).duties (sendCell c i) 0 \ ∅) (fun d => (sched Y).payload (sendCell c i) 0 d) = rowsFull Y c (chunkOf i) := by
  rw [Finset.sdiff_empty, duties_send, bigSep_singleton, payload_send]
omit [FloatOps F] in
theorem rest_recv (k : Fin 15) : bigSep ((sched Y).duties (recvCell c k) 0 \ ∅) (fun d => (sched Y).payload (recvCell c k) 0 d) = slotFull Y c k := by
  rw [Finset.sdiff_empty, duties_recv, bigSep_singleton, payload_recv]

end Sched

/-! ## What is owed, and the levels -/

/-- What device `c` still owes: the credit of the sends in `l`; those and a barrier unit for each signal in `l`. -/
def oSend (c : Dev nD) : List (Fin 15) → CellTallies nD τ sig Unit
  | [] => 0
  | i :: l => oSend c l + tallyAt (recvCell (nb c i) (opp i)) () N
def oSig (c : Dev nD) : List (Fin 15) → CellTallies nD τ sig Unit
  | [] => oSend c fifteen
  | i :: l => oSig c l + tallyAt (barCell (nb c i)) () 1
def O₀ (c : Dev nD) : CellTallies nD τ sig Unit := oSig c fifteen

def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ k, g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 15) (u : Unit) : lv (recvCell c k) u = 2 := by
  unfold lv; rw [if_neg (dma_ne_bar _), if_pos ⟨k, rfl⟩]

theorem oSend_pos {c : Dev nD} {l : List (Fin 15)} {g : GSem nD τ sig} {u : Unit} (h : 0 < oSend c l g u) : ∃ d k, g = recvCell d k := by
  induction l with
  | nil => exact absurd h (Nat.lt_irrefl 0)
  | cons i l ih =>
    rw [oSend, Pi.add_apply, Finsupp.add_apply, tallyAt_apply] at h
    by_cases h' : g = recvCell (nb c i) (opp i) ∧ u = ()
    · exact ⟨_, _, h'.1⟩
    · rw [if_neg h', Nat.add_zero] at h; exact ih h
theorem oSig_pos {c : Dev nD} {l : List (Fin 15)} {g : GSem nD τ sig} {u : Unit} (h : 0 < oSig c l g u) :
    (∃ d k, g = recvCell d k) ∨ ∃ d, g = barCell d := by
  induction l with
  | nil => exact .inl (oSend_pos h)
  | cons i l ih =>
    rw [oSig, Pi.add_apply, Finsupp.add_apply, tallyAt_apply] at h
    by_cases h' : g = barCell (nb c i) ∧ u = ()
    · exact .inr ⟨_, h'.1⟩
    · rw [if_neg h', Nat.add_zero] at h; exact ih h

omit [FloatOps F] in
theorem mayWait_stage (c : Dev nD) (q : DmaSem sig) (hq : ∀ k, q ≠ recvS k) (O : CellTallies nD τ sig Unit) (hO : O = O₀ c ∨ O = 0) :
    (levAts L lv : sProp (MM F)) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oSig_pos hg with ⟨d, k, rfl⟩ | ⟨d, rfl⟩ <;> exact Finset.mem_singleton_self _)
      (fun p hp => by
        rw [Finset.mem_singleton.mp hp]; dsimp only [lv]; rw [if_neg (dma_ne_bar _), if_neg (fun ⟨k, hk⟩ => hq k (dma_inj hk))])
      (fun g u hg => by rcases oSig_pos hg with ⟨d, k, rfl⟩ | ⟨d, rfl⟩ <;> simp only [lv_recv, lv_bar] <;> decide)
  · rw [MayWait_zero]; iintro -; iempintro

omit [FloatOps F] in
theorem mayWait_bar (c : Dev nD) : (levAts L lv : sProp (MM F)) ⊢ MayWait (c : Thread nD τ) (.reg barS) () (oSend c fifteen) :=
  MayOwe.of_cut (L := L) (lev := lv) 1 (fun p hp => by rw [Finset.mem_singleton.mp hp, L_tc]; exact Finset.mem_singleton_self _)
    (fun g u hg => by obtain ⟨d, k, rfl⟩ := oSend_pos hg; exact Finset.mem_singleton_self _)
    (fun p hp => by rw [Finset.mem_singleton.mp hp]; dsimp only [lv]; rw [if_pos rfl])
    (fun g u hg => by obtain ⟨d, k, rfl⟩ := oSend_pos hg; rw [lv_recv]; decide)

end Cert.Moe

end
-- ==== Proof.Vals.lean ====
/-
# What the buffers hold

The contents of a device's buffers as pure functions of its five operands: the packed tokens `yg`, their
products `yb`, and the device's rows `out`, which also read the products of the other devices.
-/
module

public import proofs.«01_k».proof.Proof.Protocol
public import Idealize.ShloMosaic.Lib.ValueIdxCore
public import Idealize.ShloMosaic.Lib.Pipeline.ValueKit.Geometry

@[expose] public section

noncomputable section

namespace Cert.Moe

open Cert.KernelIdeal Cert.KernelIdeal.Gen
open Idealize.ShloMosaic
open Idealize.ShloMosaic.TcCoe
open Idealize.ShloMosaic.ValueIdx (ix2 eq_ix2)

variable {F : FTy → Type} [FloatOps F]

/-- A device's five operands. -/
structure Inputs (F : FTy → Type) [FloatOps F] where
  x : Vec F S2048x512 .bf16
  rw : Vec F S512x128 .bf16
  ix : Vec F S2048x1 .i32
  e : Vec F S8x512x1024 .bf16
  sw : Vec F S512x1024 .bf16

namespace Inputs
variable (A : Inputs F)

/-- The operands as the body copies them, and the gates. -/
def xb : Vec F S2048x512 .bf16 := k0_pay1 A.x
def eb : Vec F S4096x1024 .bf16 := k0_pay2 A.e
def sb : Vec F S512x1024 .bf16 := k0_pay3 A.sw
def gt : Vec F S2048x128 .f32 := gateOf A.xb A.rw A.ix

/-- Chunk `s` packed by device `d`; all chunks; their products. -/
def pk (d : Dev nD) (s : Fin 16) : Vec F S32x4096 .bf16 :=
  packed (loWord d) (fun j => A.xb ((xR d s).emb j)) (fun j => A.gt ((gR d s).emb j)) (fun j => A.ix ((iR d s).emb j))
def yg (d : Dev nD) : Vec F S512x4096 .bf16 := fun i =>
  A.pk d ⟨(i 0).val / 32, by have : (i 0).val < 512 := (i 0).isLt; omega⟩
    (ix2 (n0 := 32) (n1 := 4096) ⟨(i 0).val % 32, Nat.mod_lt _ (by decide)⟩ (i 1))
def gp (d : Dev nD) (g : Fin 4) : Vec F S128x1024 .bf16 := product (fun j => A.yg d ((ygG g).emb j)) A.eb
def yb (d : Dev nD) : Vec F S512x1024 .bf16 := fun i =>
  A.gp d ⟨(i 0).val / 128, by have : (i 0).val < 512 := (i 0).isLt; omega⟩
    (ix2 (n0 := 128) (n1 := 1024) ⟨(i 0).val % 128, Nat.mod_lt _ (by decide)⟩ (i 1))

/-- The device's own routes, and the shared expert's part of its rows. -/
def rt (d : Dev nD) : Vec F S128x1 .i32 := fun j => A.ix ((iOwn d).emb j)
def acc0 (d : Dev nD) : FVec F S128x1024 .f32 := k0_pay175 (fun j => A.xb ((xOwn d).emb j)) A.sb

end Inputs

/-- The rows that come in the slots of `l` added one after another. -/
def accum (Y : Dev nD → Vec F S512x1024 .bf16) (d : Dev nD) (rt : Vec F S128x1 .i32) : List (Fin 15) → FVec F S128x1024 .f32 → FVec F S128x1024 .f32
  | [], acc => acc
  | j :: l, acc => accum Y d rt l (scattered (loFrom d j) rt acc (rowsOf Y (nb d j) (chunkOf (opp j))))

/-- Device `d`'s rows, `A` its operands and `Y` the products of all devices. -/
def outOf (Y : Dev nD → Vec F S512x1024 .bf16) (A : Inputs F) (d : Dev nD) : FVec F S128x1024 .f32 :=
  accum Y d (A.rt d) fifteen (scattered (loWord d) (A.rt d) (A.acc0 d) (rowsOf Y d ownChunk))

theorem yg_val (s : Fin 16) (j : (ygR s).shape.Idx) (a : Fin 2) : ((ygR s).emb j a : Nat) = (![32 * s.val, 0] : Fin 2 → Nat) a + j a :=
  ValueKit.rect_emb_unit_val _ _ _ j a
theorem ygG_val (g : Fin 4) (j : (ygG g).shape.Idx) (a : Fin 2) : ((ygG g).emb j a : Nat) = (![128 * g.val, 0] : Fin 2 → Nat) a + j a :=
  ValueKit.rect_emb_unit_val _ _ _ j a
theorem ybG_val (g : Fin 4) (j : (ybG g).shape.Idx) (a : Fin 2) : ((ybG g).emb j a : Nat) = (![128 * g.val, 0] : Fin 2 → Nat) a + j a :=
  ValueKit.rect_emb_unit_val _ _ _ j a
theorem yb_val (s : Fin 16) (j : (ybR s).shape.Idx) (a : Fin 2) : ((ybR s).emb j a : Nat) = (![32 * s.val, 0] : Fin 2 → Nat) a + j a :=
  ValueKit.rect_emb_unit_val _ _ _ j a

/-- The packed tokens at chunk `s`'s rows. -/
theorem yg_emb (A : Inputs F) (d : Dev nD) (s : Fin 16) (j : (ygR s).shape.Idx) : A.yg d ((ygR s).emb j) = A.pk d s j := by
  have h0 : ((ygR s).emb j 0 : Nat) = 32 * s.val + j 0 := yg_val s j 0
  have h1 : ((ygR s).emb j 1 : Nat) = 0 + j 1 := yg_val s j 1
  have hj : (j 0 : Nat) < 32 := (j 0).isLt
  unfold Inputs.yg
  congr 1
  · congr 1; show ((ygR s).emb j 0 : Nat) / 32 = s.val; omega
  · funext a
    refine Fin.ext ?_
    match a with
    | ⟨0, _⟩ => show ((ygR s).emb j 0 : Nat) % 32 = j 0; omega
    | ⟨1, _⟩ => show ((ygR s).emb j 1 : Nat) = j 1; omega

/-- The products at group `g`'s rows. -/
theorem yb_emb (A : Inputs F) (d : Dev nD) (g : Fin 4) (j : (ybG g).shape.Idx) : A.yb d ((ybG g).emb j) = A.gp d g j := by
  have h0 : ((ybG g).emb j 0 : Nat) = 128 * g.val + j 0 := ybG_val g j 0
  have h1 : ((ybG g).emb j 1 : Nat) = 0 + j 1 := ybG_val g j 1
  have hj : (j 0 : Nat) < 128 := (j 0).isLt
  unfold Inputs.yb
  congr 1
  · congr 1; show ((ybG g).emb j 0 : Nat) / 128 = g.val; omega
  · funext a
    refine Fin.ext ?_
    match a with
    | ⟨0, _⟩ => show ((ybG g).emb j 0 : Nat) % 128 = j 0; omega
    | ⟨1, _⟩ => show ((ybG g).emb j 1 : Nat) = j 1; omega

end Cert.Moe

end
-- ==== Proof.Slices.lean ====
/-
# Cutting and joining the buffers

The products' buffer is four groups of 128 rows, each four chunks of 32; the landing buffer is fifteen slots.
-/
module

public import proofs.«01_k».proof.Proof.Vals

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A whole buffer of device `c` at contents `f`. -/
abbrev pt (c : Dev nD) (b : Ref sig .tc) (f : Buf (Elt F) ((c : Thread nD τ).loc b)) : sProp (MM F) := ((c : Thread nD τ).loc b) ↦{fullShare} f

/-- Group `g` of device `c`'s products at contents `f`; the rows of chunk `s`; slot `k`. -/
def grp (c : Dev nD) (g : Fin 4) (f : Buf (Elt F) ((c : Thread nD τ).loc cc0_scratch5)) : sProp (MM F) :=
  (c : Thread nD τ).loc cc0_scratch5 ↦[(ybG g).set]{fullShare} f

theorem set_slot (k : Fin 15) : (slotM k).view.set = (rvR k).set := (View.set_reshape _ _).trans (View.set_slice_whole _ _)
theorem set_rows (s : Fin 16) : (rowsM s).view.set = (ybR s).set := View.set_slice_whole _ _

theorem disj_slot (k k' : Fin 15) (h : k ≠ k') : Disjoint (rvR k).set (rvR k').set :=
  Rect.unit_disjoint (0 : Fin 3) (by
    show k.val + 1 ≤ k'.val ∨ k'.val + 1 ≤ k.val
    have := Fin.val_ne_of_ne h; omega)
theorem disj_rows (s s' : Fin 16) (h : s ≠ s') : Disjoint (ybR s).set (ybR s').set :=
  Rect.unit_disjoint (0 : Fin 2) (by
    show 32 * s.val + 32 ≤ 32 * s'.val ∨ 32 * s'.val + 32 ≤ 32 * s.val
    have := Fin.val_ne_of_ne h; omega)
theorem disj_grp (g g' : Fin 4) (h : g ≠ g') : Disjoint (ybG g).set (ybG g').set :=
  Rect.unit_disjoint (0 : Fin 2) (by
    show 128 * g.val + 128 ≤ 128 * g'.val ∨ 128 * g'.val + 128 ≤ 128 * g.val
    have := Fin.val_ne_of_ne h; omega)

theorem mem_rows {s : Fin 16} {i : S512x1024.Idx} : i ∈ (ybR s).set ↔ 32 * s.val ≤ (i 0).val ∧ (i 0).val < 32 * s.val + 32 := by
  rw [Rect.mem_set_unit]
  have h1 : (i 1).val < 1024 := (i 1).isLt
  refine ⟨fun h => h 0, fun h a => ?_⟩
  match a with
  | ⟨0, _⟩ => exact h
  | ⟨1, _⟩ => exact ⟨Nat.zero_le _, by show (i 1).val < 0 + 1024; omega⟩
theorem mem_grp {g : Fin 4} {i : S512x1024.Idx} : i ∈ (ybG g).set ↔ 128 * g.val ≤ (i 0).val ∧ (i 0).val < 128 * g.val + 128 := by
  rw [Rect.mem_set_unit]
  have h1 : (i 1).val < 1024 := (i 1).isLt
  refine ⟨fun h => h 0, fun h a => ?_⟩
  match a with
  | ⟨0, _⟩ => exact h
  | ⟨1, _⟩ => exact ⟨Nat.zero_le _, by show (i 1).val < 0 + 1024; omega⟩
theorem mem_slot {k : Fin 15} {i : S15x32x1024.Idx} : i ∈ (rvR k).set ↔ (i 0).val = k.val := by
  rw [Rect.mem_set_unit]
  have h1 : (i 1).val < 32 := (i 1).isLt
  have h2 : (i 2).val < 1024 := (i 2).isLt
  refine ⟨fun h => ?_, fun h a => ?_⟩
  · have : k.val ≤ (i 0).val ∧ (i 0).val < k.val + 1 := h 0
    omega
  · match a with
    | ⟨0, _⟩ => exact ⟨by show k.val ≤ (i 0).val; omega, by show (i 0).val < k.val + 1; omega⟩
    | ⟨1, _⟩ => exact ⟨Nat.zero_le _, by show (i 1).val < 0 + 32; omega⟩
    | ⟨2, _⟩ => exact ⟨Nat.zero_le _, by show (i 2).val < 0 + 1024; omega⟩

theorem cover_slot : (Finset.univ : Finset S15x32x1024.Idx) = Finset.univ.biUnion fun k : Fin 15 => (rvR k).set := by
  ext i; simp only [Finset.mem_univ, Finset.mem_biUnion, true_and, true_iff]
  exact ⟨⟨(i 0).val, (i 0).isLt⟩, mem_slot.mpr rfl⟩
theorem cover_grp : (Finset.univ : Finset S512x1024.Idx) = Finset.univ.biUnion fun g : Fin 4 => (ybG g).set := by
  ext i; simp only [Finset.mem_univ, Finset.mem_biUnion, true_and, true_iff]
  have h : (i 0).val < 512 := (i 0).isLt
  exact ⟨⟨(i 0).val / 128, by omega⟩, mem_grp.mpr (by dsimp only; omega)⟩
theorem cover_rows : (Finset.univ : Finset S512x1024.Idx) = Finset.univ.biUnion fun s : Fin 16 => (ybR s).set := by
  ext i; simp only [Finset.mem_univ, Finset.mem_biUnion, true_and, true_iff]
  have h : (i 0).val < 512 := (i 0).isLt
  exact ⟨⟨(i 0).val / 32, by omega⟩, mem_rows.mpr (by dsimp only; omega)⟩

theorem mem_chunksOf (g : Fin 4) (s : Fin 16) : s ∈ chunksOf g ↔ s.val / 4 = g.val := by revert g s; decide
theorem nodup_chunksOf (g : Fin 4) : (chunksOf g).Nodup := by revert g; decide
theorem cover_chunks (g : Fin 4) : (ybG g).set = (chunksOf g).toFinset.biUnion fun s => (ybR s).set := by
  ext i
  have h : (i 0).val < 512 := (i 0).isLt
  simp only [Finset.mem_biUnion, List.mem_toFinset, mem_grp, mem_rows, mem_chunksOf]
  exact ⟨fun h' => ⟨⟨(i 0).val / 32, by omega⟩, by dsimp only; omega, by dsimp only; omega⟩, fun ⟨s, h₁, h₂⟩ => by omega⟩

theorem univ_four : (Finset.univ : Finset (Fin 4)) = four.toFinset := by decide
theorem nodup_four : four.Nodup := by decide

variable (Y : Dev nD → Vec F S512x1024 .bf16)

omit [FloatOps F] in
/-- The products' buffer, by groups. -/
theorem split_groups (c : Dev nD) (f : Buf (Elt F) ((c : Thread nD τ).loc cc0_scratch5)) : pt c cc0_scratch5 f ⊢ bigSepL four fun g => grp c g f := by
  refine Entails.of_eq ?_
  rw [← bigSep_univ_eq_bigSepL four univ_four nodup_four]
  unfold grp
  rw [← pointsTo_biUnion _ _ fun t _ t' _ h => disj_grp t t' h]
  exact congrArg (fun S => ((c : Thread nD τ).loc cc0_scratch5 ↦[S]{fullShare} f : sProp (MM F))) cover_grp

omit [FloatOps F] in
/-- A chunk's rows of the products. -/
theorem rows_intro (c : Dev nD) (s : Fin 16) : ((c : Thread nD τ).loc cc0_scratch5 ↦[(ybR s).set]{fullShare} (Y c) : sProp (MM F)) ⊢ rowsFull Y c s := by
  have h := owns_intro (Ix := Unit) (Val := Elt F) (Name := ℕ) (U := UU) (Lvl := ℕ) (c : Thread nD τ) (rowsM s) fullShare (Y c)
  rw [set_rows] at h
  exact h

omit [FloatOps F] in
/-- A group holding its products, by chunks. -/
theorem split_chunks (c : Dev nD) (g : Fin 4) : grp c g (Y c) ⊢ bigSepL (chunksOf g) (rowsFull Y c) := by
  refine .trans (Entails.of_eq ?_) (bigSepL_mono fun s _ => rows_intro Y c s)
  rw [← bigSep_eq_bigSepL_of_eq (chunksOf g) rfl (nodup_chunksOf g)]
  unfold grp
  rw [← pointsTo_biUnion _ _ fun t _ t' _ h => disj_rows t t' h]
  exact congrArg (fun S => ((c : Thread nD τ).loc cc0_scratch5 ↦[S]{fullShare} (Y c) : sProp (MM F))) (cover_chunks g)

omit [FloatOps F] in
/-- Disjoint parts that cover a buffer, at any contents, are the buffer at some contents. -/
theorem join_any {T : Type} [Fintype T] [DecidableEq T] {ℓ : Loc nD τ sig} (K : T → Finset (Idx ℓ)) (hd : ∀ t t', t ≠ t' → Disjoint (K t) (K t'))
    (hc : Finset.univ = Finset.univ.biUnion K) (f₀ : Buf (Elt F) ℓ) :
    bigSep Finset.univ (fun t => iprop(∃ f : Buf (Elt F) ℓ, ℓ ↦[K t]{fullShare} f)) ⊢ (iprop(∃ f : Buf (Elt F) ℓ, ℓ ↦{fullShare} f) : sProp (MM F)) := by
  haveI : Nonempty (Buf (Elt F) ℓ) := ⟨f₀⟩
  refine (bigSep_exists_pi Finset.univ _).trans ?_
  iintro ⟨%fs, H⟩
  ihave H' := (pointsTo_biUnion_join Finset.univ K fs f₀ fun t _ t' _ h => hd t t' h) $$ H
  icases H' with ⟨%f, -, H⟩
  iexists f
  rw [← hc]
  iexact H

omit [FloatOps F] in
theorem rows_drop (c : Dev nD) (s : Fin 16) : rowsFull Y c s ⊢ iprop(∃ f : Buf (Elt F) ((c : Thread nD τ).loc cc0_scratch5), (c : Thread nD τ).loc cc0_scratch5 ↦[(ybR s).set]{fullShare} f) := by
  unfold rowsFull owns
  rw [set_rows]
  iintro ⟨%f, -, H⟩
  iexists f; iexact H

omit [FloatOps F] in
/-- The sixteen chunks' rows are the products' buffer again. -/
theorem join_rows (c : Dev nD) : bigSepL ((fifteen.map chunkOf) ++ [ownChunk]) (rowsFull Y c)
    ⊢ iprop(∃ f : Buf (Elt F) ((c : Thread nD τ).loc cc0_scratch5), pt c cc0_scratch5 f) := by
  refine (bigSepL_mono fun s _ => rows_drop Y c s).trans ?_
  rw [← bigSep_univ_eq_bigSepL (I := Fin 16) _ (by decide) (by decide)]
  exact join_any (ℓ := (c : Thread nD τ).loc cc0_scratch5) (fun s => (ybR s).set) disj_rows cover_rows (Y c)

omit [FloatOps F] in
/-- The landing buffer, by slots. -/
theorem split_slots (c : Dev nD) (f : Buf (Elt F) ((c : Thread nD τ).loc cc0_scratch6)) : pt c cc0_scratch6 f ⊢ bigSepL fifteen (slotAny (F := F) c) := by
  refine .trans (Entails.of_eq (Q := bigSepL fifteen fun k => (c : Thread nD τ).loc cc0_scratch6 ↦[(rvR k).set]{fullShare} f) ?_) (bigSepL_mono fun k _ => ?_)
  · rw [← bigSep_fifteen, ← pointsTo_biUnion _ _ fun t _ t' _ h => disj_slot t t' h]
    exact congrArg (fun S => ((c : Thread nD τ).loc cc0_scratch6 ↦[S]{fullShare} f : sProp (MM F))) cover_slot
  · have h := owns_intro (Ix := Unit) (Val := Elt F) (Name := ℕ) (U := UU) (Lvl := ℕ) (c : Thread nD τ) (slotM k) fullShare f
    rw [set_slot] at h
    unfold slotAny
    iintro H
    iexists ((slotM k).view.read (Elt F) f)
    iapply h; iexact H

omit [FloatOps F] in
theorem slot_drop (c : Dev nD) (k : Fin 15) : slotFull Y c k ⊢ iprop(∃ f : Buf (Elt F) ((c : Thread nD τ).loc cc0_scratch6), (c : Thread nD τ).loc cc0_scratch6 ↦[(rvR k).set]{fullShare} f) := by
  unfold slotFull owns
  rw [set_slot]
  iintro ⟨%f, -, H⟩
  iexists f; iexact H

omit [FloatOps F] in
/-- The fifteen slots are the landing buffer again. -/
theorem join_slots (c : Dev nD) : bigSepL fifteen (slotFull Y c) ⊢ iprop(∃ f : Buf (Elt F) ((c : Thread nD τ).loc cc0_scratch6), pt c cc0_scratch6 f) := by
  refine (bigSepL_mono fun k _ => slot_drop Y c k).trans ?_
  rw [← bigSep_fifteen]
  exact join_any (ℓ := (c : Thread nD τ).loc cc0_scratch6) (fun k => (rvR k).set) disj_slot cover_slot
    (fun _ => Y c (ValueIdx.ix2 (n0 := 512) (n1 := 1024) ⟨0, by decide⟩ ⟨0, by decide⟩))

end Cert.Moe

end
-- ==== Proof.Comm.lean ====
/-
# The loops that talk to the other devices

One device's signals, sends, receives and waits, each loop proved over a list of peers from what one peer needs.
-/
module

public import proofs.«01_k».proof.Proof.Slices

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- Device `c` runs `p` and then `Q`. -/
abbrev WP (c : Dev nD) (p : Pg F) (Q : PUnit → sProp (MM F)) : sProp (MM F) :=
  wp frame (wpE (defs₀ (F := F)) 𝒱₀ (c : Thread nD τ) none) Set.univ p Q

/-- The credit device `c` owes, whatever it waited for. -/
def owesE (c : Dev nD) (O : CellTallies nD τ sig Unit) : sProp (MM F) := iprop(∃ W, owes (c : Thread nD τ) O W)

variable (Y : Dev nD → Vec F S512x1024 .bf16) (K : Dev nD × Option (Bool × Fin 15) → ℕ) (c : Dev nD)

abbrev barInv (d : Dev nD) : sProp (MM F) := cellInv ER (sched Y) (K (d, none)) (barCell d)
abbrev sendInv (d : Dev nD) (i : Fin 15) : sProp (MM F) := cellInv ER (sched Y) (K (d, some (false, i))) (sendCell d i)
abbrev recvInv (d : Dev nD) (k : Fin 15) : sProp (MM F) := cellInv ER (sched Y) (K (d, some (true, k))) (recvCell d k)

/-- What signal `i` needs; send `i`; the receive in slot `k`, and what it leaves; the wait for send `i`, and what it leaves. -/
def sigB (i : Fin 15) : sProp (MM F) :=
  iprop(barInv Y K (nb c i) ∗ dutyTok ER (barCell (nb c i)) 0 (opp i) ∗ reached ER (barCell (nb c i)) 0 ∗ slotAny c i ∗ reached ER (recvCell c i) 0)
def sendG (i : Fin 15) : sProp (MM F) :=
  iprop(sendInv Y K c i ∗ recvInv Y K (nb c i) (opp i) ∗ dutyTok ER (sendCell c i) 0 0 ∗ reached ER (sendCell c i) 0
    ∗ dutyTok ER (recvCell (nb c i) (opp i)) 0 0)
def sendB (i : Fin 15) : sProp (MM F) := iprop(sendG Y K c i ∗ barPay c i)
def recvB (k : Fin 15) : sProp (MM F) := iprop(recvInv Y K c k ∗ atPos ER (recvCell c k) 0 ∅ 0 ∗ cred (tallyAt (recvCell c k) () N))
def recvD (k : Fin 15) : sProp (MM F) := iprop(semVal (recvCell c k) 0 ∗ slotFull Y c k)
def sentG (i : Fin 15) : sProp (MM F) := iprop(sendInv Y K c i ∗ atPos ER (sendCell c i) 0 ∅ 0)
def sentB (i : Fin 15) : sProp (MM F) := iprop(sentG Y K c i ∗ cred (tallyAt (sendCell c i) () N))
def sentD (i : Fin 15) : sProp (MM F) := iprop(semVal (sendCell c i) 0 ∗ rowsFull Y c (chunkOf i))

/-- One signal, to `n = nb c i`. -/
theorem run_signal (n : Dev nD) (i : Fin 15) (hn : n = nb c i) (O : CellTallies nD τ sig Unit) (k : Pg F) (Q : PUnit → sProp (MM F)) :
    iprop(sigB Y K c i ∗ owesE c (O + tallyAt (barCell (nb c i)) () 1))
      ⊢ iprop((owesE c O -∗ WP c k Q) -∗ WP c (.op (.semSignal ((n : Dev nD), .tc) barS (1#32 : BitVec 32).toInt) fun _ => k) Q) := by
  subst hn
  unfold sigB owesE
  iintro ⟨⟨#HI, Ht, #Hr, Hs, #Hr'⟩, ⟨%W, HO⟩⟩ Hk
  iapply (Rounds.wp_signal 𝒱₀ ER (sched Y) (c : Thread nD τ) none (dst := (nb c i : Thread nD τ)) (κ := K (nb c i, none))
      (d := opp i) (by rw [duties_bar]; exact Finset.mem_univ _) ((amount_bar Y (nb c i) (opp i)).trans (by decide)) () O rfl)
    $$ [HO Ht Hs]
  · isplitr; · iexact HI
    isplitl [HO]; · iexact HO
    isplitl [Ht]; · iexact Ht
    isplitl [Hs]
    · rw [payload_bar]; unfold barPay; rw [nb_nb, opp_opp]
      isplitl [Hs]; · iexact Hs
      iexact Hr'
    · iexact Hr
  iintro HO
  iapply Hk
  iexists W; iexact HO

theorem run_signals (k : Pg F) (Q : PUnit → sProp (MM F)) : ∀ l : List (Fin 15),
    iprop(bigSepL l (sigB Y K c) ∗ owesE c (oSig c l))
      ⊢ iprop((owesE c (oSend c fifteen) -∗ WP c k Q) -∗ WP c (signals c l k) Q)
  | [] => by
    rw [oSig]; unfold signals
    iintro ⟨-, HO⟩ Hk
    iapply Hk; iexact HO
  | i :: l => by
    rw [oSig, bigSepL_cons']; unfold signals
    iintro ⟨⟨Hi, Hl⟩, HO⟩ Hk
    iapply (run_signal Y K c _ i (sigDev_eq c i) (oSig c l) (signals c l k) Q) $$ [Hi HO]
    · isplitl [Hi]; · iexact Hi
      iexact HO
    iintro HO
    iapply (run_signals k Q l) $$ [Hl HO]
    · isplitl [Hl]; · iexact Hl
      iexact HO
    iexact Hk

/-- The wait on the barrier: the slots of all the others. -/
theorem run_barrier (k : Pg F) (Q : PUnit → sProp (MM F)) :
    iprop((barInv Y K c ∗ atPos ER (barCell c) 0 ∅ 0 ∗ cred (tallyAt (barCell c) () 15)) ∗ levAts L lv ∗ owesE c (oSend c fifteen))
      ⊢ iprop(((semVal (barCell c) 0 ∗ bigSepL fifteen (barPay c) ∗ owesE c (oSend c fifteen)) -∗ WP c k Q)
          -∗ WP c (.op (.semWait barS (15#32 : BitVec 32).toInt) fun _ => k) Q) := by
  unfold owesE
  iintro ⟨⟨#HI, Hat, Hc⟩, #Hlev, ⟨%W, HO⟩⟩ Hk
  iapply (Rounds.wp_wait_rest_token 𝒱₀ ER (sched Y) (c : Thread nD τ) none (κ := K (c, none))
      (wpE_semWait_eq 𝒱₀ (c : Thread nD τ) none Set.univ) (Set.mem_univ _) () (O := oSend c fifteen) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (sched Y) (Set.mem_univ (K (c, none))) (fun h => h) (R := 0 + 1) (duties_later Y (barCell c))) $$ [Hat] with Hz
  · isplitr; · iexact HI
    iexact Hat
  iapply Hk
  isplitl [Hz]; · iexact Hz
  isplitl [Hpay]; · iapply (Entails.of_eq (rest_bar Y c)); iexact Hpay
  iexists _; iexact HO

/-- One send, to `n = nb c i`. -/
theorem run_send (n : Dev nD) (i : Fin 15) (hn : n = nb c i) (O : CellTallies nD τ sig Unit)
    {hsc : (slotM (opp i) : Memref sig (Dev.tc n : Thread nD τ).2.kind .vmem S32x1024 .bf16).view.ref.isScScratch = false}
    {hsrc : (rowsM (chunkOf i)).view.WordExact} {hdst : (slotM (opp i)).view.WordExact}
    {hsem : DmaTarget.Typed .vmem (.dma (recvS (opp i))) (.remote (Dev.tc n : Thread nD τ) (slotM (opp i)) (.dma (sendS i)) hsc)}
    (k : Pg F) (Q : PUnit → sProp (MM F)) :
    iprop(sendB Y K c i ∗ rowsFull Y c (chunkOf i) ∗ owesE c (O + tallyAt (recvCell (nb c i) (opp i)) () N))
      ⊢ iprop(((cred (tallyAt (sendCell c i) () N) ∗ owesE c O) -∗ WP c k Q)
          -∗ WP c (.op (.enqueueDma (rowsM (chunkOf i)) (.remote (Dev.tc n : Thread nD τ) (slotM (opp i)) (.dma (sendS i)) hsc)
              (.dma (recvS (opp i))) hsrc hdst hsem) fun _ => k) Q) := by
  subst hn
  unfold sendB sendG owesE barPay slotAny rowsFull
  iintro ⟨⟨⟨#HIs, #HIr, Hts, #Hrs, Htr⟩, ⟨%X, Hslot⟩, #Hrr⟩, Hrows, ⟨%W, HO⟩⟩ Hk
  unfold owns
  icases Hslot with ⟨%fd, -, Hslot⟩
  icases Hrows with ⟨%fs, %hfs, Hrows⟩
  iapply (Rounds.wp_send_pointsTo 𝒱₀ ER (sched Y) (c : Thread nD τ) none (c' := (nb c i : Thread nD τ)) (κ₁ := K (c, some (false, i))) (κ₂ := K (nb c i, some (true, opp i)))
    (src := rowsM (chunkOf i)) (dst := slotM (opp i)) (sS := .dma (sendS i)) (sem := .dma (recvS (opp i)))
    (r₁ := 0) (r₂ := 0) (d₁ := 0) (d₂ := 0) (fs := fs) (fd := fd)
    (by rw [duties_send]; exact Finset.mem_singleton_self _) (by rw [duties_recv]; exact Finset.mem_singleton_self _)
    () () N rfl (amount_dma Y c (sendS i) 0) (amount_dma Y (nb c i) (recvS (opp i)) 0) O rfl (W := W)
    (by
      rw [payload_send]; unfold rowsFull
      rw [← hfs]; exact owns_intro (c : Thread nD τ) (rowsM (chunkOf i)) fullShare fs)
    (by
      rw [payload_recv]; unfold slotFull
      rw [nb_nb, opp_opp, ← hfs]
      refine (owns_intro (nb c i : Thread nD τ) (slotM (opp i)) fullShare _).trans (Entails.of_eq ?_)
      rw [View.read_write_univ])) $$ [Hrows Hslot HO Hts Htr]
  · isplitr; · iexact HIs
    isplitr; · iexact HIr
    isplitl [Hrows]; · iexact Hrows
    isplitl [Hslot]; · iexact Hslot
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

theorem run_sends (r : List (Fin 15)) (k : Pg F) (Q : PUnit → sProp (MM F)) : ∀ l : List (Fin 15),
    iprop(bigSepL l (sendB Y K c) ∗ bigSepL (l.map chunkOf) (rowsFull Y c) ∗ owesE c (oSend c (l ++ r)))
      ⊢ iprop(((bigSepL l (fun i => cred (tallyAt (sendCell c i) () N)) ∗ owesE c (oSend c r)) -∗ WP c k Q) -∗ WP c (sends c l k) Q)
  | [] => by
    unfold sends
    iintro ⟨-, -, HO⟩ Hk
    iapply Hk
    isplitr; · rw [bigSepL_nil]; iempintro
    iexact HO
  | i :: l => by
    rw [List.cons_append, oSend, List.map_cons, bigSepL_cons', bigSepL_cons', bigSepL_cons']; unfold sends
    iintro ⟨⟨Hi, Hl⟩, ⟨Hri, Hrl⟩, HO⟩ Hk
    iapply (run_send Y K c _ i (sendDev_eq c i) (oSend c (l ++ r)) (sends c l k) Q) $$ [Hi Hri HO]
    · isplitl [Hi]; · iexact Hi
      isplitl [Hri]; · iexact Hri
      iexact HO
    iintro ⟨Hci, HO⟩
    iapply (run_sends r k Q l) $$ [Hl Hrl HO]
    · isplitl [Hl]; · iexact Hl
      isplitl [Hrl]; · iexact Hrl
      iexact HO
    iintro ⟨Hcl, HO⟩
    iapply Hk
    isplitr [HO]
    · isplitl [Hci] <;> iassumption
    iexact HO

omit [FloatOps F] in
theorem slotVal_read [FloatOps F] (j : Fin 15) (f : cc0_scratch6.ty.Contents (Elt F)) :
    slotVal ((rvM.access (rvR j)).read (Elt F) f : Vec F S1x32x1024 .bf16) = (slotM j).view.read (Elt F) f := rfl

/-- One receive: the slot's rows are what `nb c j` sent. -/
theorem run_recv (j : Fin 15) {h₁ : (slotM j).view.WordExact} {h₂ : (slotM j).view.WordExact} {hl : rvM.view.LoadsAt (rvR j).toLoadRect}
    (k : Vec F S1x32x1024 .bf16 → Pg F) (Q : PUnit → sProp (MM F)) (k' : Pg F)
    (hk : ∀ v : Vec F S1x32x1024 .bf16, slotVal v = rowsOf Y (nb c j) (chunkOf (opp j)) → k v = k') :
    iprop(recvB Y K c j ∗ owesE c 0)
      ⊢ iprop(((recvD Y c j ∗ owesE c 0) -∗ WP c k' Q)
          -∗ WP c (.op (.waitDma2 (recvS j) (slotM j) (slotM j) h₁ h₂) fun _ => .op (.load rvM (rvR j).toLoadRect hl) k) Q) := by
  unfold recvB owesE recvD
  iintro ⟨⟨#HI, Hat, Hc⟩, ⟨%W, HO⟩⟩ Hk
  iapply (Rounds.wp_wait_rest_token 𝒱₀ ER (sched Y) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched Y) (Set.mem_univ (K (c, some (true, j)))) (fun h => h) (R := 0 + 1) (duties_later Y (recvCell c j))) $$ [Hat] with Hz
  · isplitr; · iexact HI
    iexact Hat
  ihave Hs := (Entails.of_eq (rest_recv Y c j)) $$ Hpay
  unfold slotFull owns
  icases Hs with ⟨%f, %hf, Hs⟩
  iapply (wp_load_rect 𝒱₀ (c : Thread nD τ) none Set.univ (m := rvM) (r := rvR j) (S := (slotM j).view.set) (f := f)
    (by rw [set_slot]; exact (View.set_slice_whole _ _).subset)) $$ Hs
  iintro Hs
  rw [hk _ ((slotVal_read j f).trans hf)]
  iapply Hk
  isplitr [HO]
  · isplitl [Hz]; · iexact Hz
    iexists f; isplitr; · ipureintro; exact hf
    iexact Hs
  iexists _; iexact HO

theorem run_recvs (rt : Vec F S128x1 .i32) (k : FVec F S128x1024 .f32 → Pg F) (Q : PUnit → sProp (MM F)) : ∀ (l : List (Fin 15)) (acc : FVec F S128x1024 .f32),
    iprop(bigSepL l (recvB Y K c) ∗ owesE c 0)
      ⊢ iprop(((bigSepL l (recvD Y c) ∗ owesE c 0) -∗ WP c (k (accum Y c rt l acc)) Q) -∗ WP c (recvs c rt l acc k) Q)
  | [], acc => by
    unfold recvs accum
    iintro ⟨-, HO⟩ Hk
    iapply Hk
    isplitr; · rw [bigSepL_nil]; iempintro
    iexact HO
  | j :: l, acc => by
    rw [bigSepL_cons', bigSepL_cons']; unfold recvs accum
    iintro ⟨⟨Hj, Hl⟩, HO⟩ Hk
    iapply (run_recv Y K c j _ Q (recvs c rt l (scattered (loFrom c j) rt acc (rowsOf Y (nb c j) (chunkOf (opp j)))) k)
      (fun v hv => by rw [hv])) $$ [Hj HO]
    · isplitl [Hj]; · iexact Hj
      iexact HO
    iintro ⟨Hdj, HO⟩
    iapply (run_recvs rt k Q l _) $$ [Hl HO]
    · isplitl [Hl]; · iexact Hl
      iexact HO
    iintro ⟨Hdl, HO⟩
    iapply Hk
    isplitr [HO]
    · isplitl [Hdj] <;> iassumption
    iexact HO

theorem run_sent (k : Pg F) (Q : PUnit → sProp (MM F)) : ∀ l : List (Fin 15),
    iprop(bigSepL l (sentB Y K c) ∗ owesE c 0)
      ⊢ iprop(((bigSepL l (sentD Y c) ∗ owesE c 0) -∗ WP c k Q) -∗ WP c (sent l k) Q)
  | [] => by
    unfold sent
    iintro ⟨-, HO⟩ Hk
    iapply Hk
    isplitr; · rw [bigSepL_nil]; iempintro
    iexact HO
  | i :: l => by
    rw [bigSepL_cons', bigSepL_cons']; unfold sent
    iintro ⟨⟨Hi, Hl⟩, HO⟩ Hk
    unfold sentB sentG owesE
    icases Hi with ⟨⟨#HI, Hat⟩, Hc⟩
    icases HO with ⟨%W, HO⟩
    iapply (Rounds.wp_wait_rest_token 𝒱₀ ER (sched Y) (c : Thread nD τ) none (κ := K (c, some (false, i)))
        (wpE_waitDma2_eq 𝒱₀ (c : Thread nD τ) none Set.univ) (Set.mem_univ _) () (O := 0) (W := W) (R := 0) (m := 0) (T := ∅)
        (by rw [Nat.zero_add, expect_send])) $$ [Hc HO Hat]
    · isplitr; · iexact HI
      isplitl [Hc]; · iexact Hc
      isplitl [HO]; · iexact HO
      isplitr; · rw [MayWait_zero]; iempintro
      iexact Hat
    iintro ⟨HO, Hat, -, Hpay⟩
    imod (Rounds.cell_close ER (sched Y) (Set.mem_univ (K (c, some (false, i)))) (fun h => h) (R := 0 + 1) (duties_later Y (sendCell c i))) $$ [Hat] with Hz
    · isplitr; · iexact HI
      iexact Hat
    ihave Hs := (Entails.of_eq (rest_send Y c i)) $$ Hpay
    ihave H := (run_sent k Q l) $$ [Hl HO]
    · isplitl [Hl]; · unfold sentB sentG; iexact Hl
      unfold owesE; iexists _; iexact HO
    iapply H
    iintro ⟨Hdl, HO⟩
    iapply Hk
    isplitr [HO]
    · isplitr [Hdl]
      · unfold sentD; isplitl [Hz] <;> iassumption
      · iexact Hdl
    unfold owesE; iexact HO

end Cert.Moe

end
-- ==== Proof.Run.lean ====
/-
# One device's run

The staging of the operands, the groups of chunks and their products, and the whole body, from what a device
holds at the start to its rows in the output buffer.
-/
module

public import proofs.«01_k».proof.Proof.Comm
public import Idealize.ShloMosaic.Lib.Pipeline.Value

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Reads and writes of whole buffers -/

omit [FloatOps F] in
theorem read_x (f : (cc0_stg0_0 : Ref sig .tc).ty.Contents (Elt F)) :
    xM.view.readAt (Elt F) (Rect.unit (s := S2048x512) ![0, 0] S2048x512.size inb_S2048x512_S2048x512_0_0).toLoadRect f = f :=
  Memref.readAt_unit_zero (Elt F) cc0_stg0_0 hz2 _ f
omit [FloatOps F] in
theorem read_rw (f : (cc0_stg1_0 : Ref sig .tc).ty.Contents (Elt F)) :
    rwM.view.readAt (Elt F) (Rect.unit (s := S512x128) ![0, 0] S512x128.size inb_S512x128_S512x128_0_0).toLoadRect f = f :=
  Memref.readAt_unit_zero (Elt F) cc0_stg1_0 hz2 _ f
omit [FloatOps F] in
theorem read_ix (f : (cc0_stg2_0 : Ref sig .tc).ty.Contents (Elt F)) :
    ixM.view.readAt (Elt F) (Rect.unit (s := S2048x1) ![0, 0] S2048x1.size inb_S2048x1_S2048x1_0_0).toLoadRect f = f :=
  Memref.readAt_unit_zero (Elt F) cc0_stg2_0 hz2 _ f
omit [FloatOps F] in
theorem read_e (f : (cc0_stg3_0 : Ref sig .tc).ty.Contents (Elt F)) :
    eM.view.readAt (Elt F) (Rect.unit (s := S8x512x1024) ![0, 0, 0] S8x512x1024.size inb_S8x512x1024_S8x512x1024_0_0_0).toLoadRect f = f :=
  Memref.readAt_unit_zero (Elt F) cc0_stg3_0 hz3 _ f
omit [FloatOps F] in
theorem read_sw (f : (cc0_stg4_0 : Ref sig .tc).ty.Contents (Elt F)) :
    swM.view.readAt (Elt F) (Rect.unit (s := S512x1024) ![0, 0] S512x1024.size inb_S512x1024_S512x1024_0_0).toLoadRect f = f :=
  Memref.readAt_unit_zero (Elt F) cc0_stg4_0 hz2 _ f
omit [FloatOps F] in
theorem read_xb (f : (cc0_scratch1 : Ref sig .tc).ty.Contents (Elt F)) :
    xbM.view.readAt (Elt F) (Rect.unit (s := S2048x512) ![0, 0] S2048x512.size inb_S2048x512_S2048x512_0_0).toLoadRect f = f :=
  Memref.readAt_unit_zero (Elt F) cc0_scratch1 hz2 _ f
omit [FloatOps F] in
theorem read_eb (f : (cc0_scratch2 : Ref sig .tc).ty.Contents (Elt F)) :
    ebM.view.readAt (Elt F) (Rect.unit (s := S4096x1024) ![0, 0] S4096x1024.size inb_S4096x1024_S4096x1024_0_0).toLoadRect f = f :=
  Memref.readAt_unit_zero (Elt F) cc0_scratch2 hz2 _ f
omit [FloatOps F] in
theorem read_sb (f : (cc0_scratch3 : Ref sig .tc).ty.Contents (Elt F)) :
    sbM.view.readAt (Elt F) (Rect.unit (s := S512x1024) ![0, 0] S512x1024.size inb_S512x1024_S512x1024_0_0).toLoadRect f = f :=
  Memref.readAt_unit_zero (Elt F) cc0_scratch3 hz2 _ f
omit [FloatOps F] in
theorem write_xb (f w : (cc0_scratch1 : Ref sig .tc).ty.Contents (Elt F)) :
    (xbM.access (Rect.unit (s := S2048x512) ![0, 0] S2048x512.size inb_S2048x512_S2048x512_0_0) : View sig .tc _ _ _).write (Elt F) f w Finset.univ = w :=
  Memref.write_access_unit_zero_univ (Elt F) cc0_scratch1 hz2 _ f w
omit [FloatOps F] in
theorem write_eb (f w : (cc0_scratch2 : Ref sig .tc).ty.Contents (Elt F)) :
    (ebM.access (Rect.unit (s := S4096x1024) ![0, 0] S4096x1024.size inb_S4096x1024_S4096x1024_0_0) : View sig .tc _ _ _).write (Elt F) f w Finset.univ = w :=
  Memref.write_access_unit_zero_univ (Elt F) cc0_scratch2 hz2 _ f w
omit [FloatOps F] in
theorem write_sb (f w : (cc0_scratch3 : Ref sig .tc).ty.Contents (Elt F)) :
    (sbM.access (Rect.unit (s := S512x1024) ![0, 0] S512x1024.size inb_S512x1024_S512x1024_0_0) : View sig .tc _ _ _).write (Elt F) f w Finset.univ = w :=
  Memref.write_access_unit_zero_univ (Elt F) cc0_scratch3 hz2 _ f w
omit [FloatOps F] in
theorem write_gt (f w : (cc0_scratch0 : Ref sig .tc).ty.Contents (Elt F)) :
    (gM.access (Rect.unit (s := S2048x128) ![0, 0] S2048x128.size inb_S2048x128_S2048x128_0_0) : View sig .tc _ _ _).write (Elt F) f w Finset.univ = w :=
  Memref.write_access_unit_zero_univ (Elt F) cc0_scratch0 hz2 _ f w
omit [FloatOps F] in
theorem write_out (f w : (cc0_stg5_0 : Ref sig .tc).ty.Contents (Elt F)) :
    (outM.access (Rect.unit (s := S128x1024) ![0, 0] S128x1024.size inb_S128x1024_S128x1024_0_0) : View sig .tc _ _ _).write (Elt F) f w Finset.univ = w :=
  Memref.write_access_unit_zero_univ (Elt F) cc0_stg5_0 hz2 _ f w

section Local

variable (A : Inputs F) (c : Dev nD)

/-- The rows of the chunks in `D` are packed. -/
def YgOk (D : List (Fin 16)) (f : Vec F S512x4096 .bf16) : Prop := ∀ s ∈ D, ∀ i : S512x4096.Idx, i ∈ (ygR s).set → f i = A.yg c i

theorem mem_yg {s : Fin 16} {i : S512x4096.Idx} : i ∈ (ygR s).set ↔ 32 * s.val ≤ (i 0).val ∧ (i 0).val < 32 * s.val + 32 := by
  rw [Rect.mem_set_unit]
  have h1 : (i 1).val < 4096 := (i 1).isLt
  refine ⟨fun h => h 0, fun h a => ?_⟩
  match a with
  | ⟨0, _⟩ => exact h
  | ⟨1, _⟩ => exact ⟨Nat.zero_le _, by show (i 1).val < 0 + 4096; omega⟩

/-- Storing chunk `s` packs its rows and keeps the others. -/
theorem YgOk_store {D : List (Fin 16)} {f : Vec F S512x4096 .bf16} (s : Fin 16) (h : YgOk A c D f) :
    YgOk A c (s :: D) ((ygM.access (ygR s)).write (Elt F) f (A.pk c s) Finset.univ) := by
  intro s' hs' i hi
  by_cases his : i ∈ (ygR s).set
  · rw [← Rect.map_emb_univ, Finset.mem_map] at his
    obtain ⟨j, -, rfl⟩ := his
    rw [yg_emb]
    exact (View.write_emb_of_mem (v := ygM.access (ygR s)) f (A.pk c s) (Finset.mem_univ j)).trans (cast_eq _ _)
  · refine (View.write_of_not_mem (v := ygM.access (ygR s)) f _ _ ?_).trans ?_
    · rw [View.setOn_univ, show (ygM.access (ygR s)).set = (ygR s).set from View.set_slice_whole _ _]; exact his
    · rcases List.mem_cons.mp hs' with rfl | hs'
      · exact absurd hi his
      · exact h s' hs' i hi

/-- A group whose four chunks are packed. -/
theorem YgOk_group {f : Vec F S512x4096 .bf16} {D : List (Fin 16)} (g : Fin 4) (h : YgOk A c D f) (hD : ∀ s ∈ chunksOf g, s ∈ D) :
    (fun j => f ((ygG g).emb j)) = fun j => A.yg c ((ygG g).emb j) := by
  funext j
  have h0 : ((ygG g).emb j 0 : Nat) = 128 * g.val + j 0 := ygG_val g j 0
  have hj : (j 0 : Nat) < 128 := (j 0).isLt
  have hi : ((ygG g).emb j 0 : Nat) < 512 := ((ygG g).emb j 0).isLt
  exact h ⟨((ygG g).emb j 0 : Nat) / 32, by omega⟩ (hD _ ((mem_chunksOf _ _).mpr (by dsimp only; omega))) _ (mem_yg.mpr (by dsimp only; omega))

/-- The buffers the chunks read. -/
def opnds : sProp (MM F) := iprop(pt c cc0_scratch1 A.xb ∗ pt c cc0_scratch0 A.gt ∗ pt c cc0_stg2_0 A.ix ∗ pt c cc0_scratch2 A.eb)

theorem run_chunk (s : Fin 16) (D : List (Fin 16)) (k : Pg F) (Q : PUnit → sProp (MM F)) :
    iprop(opnds A c ∗ ∃ f : Buf (Elt F) ((c : Thread nD τ).loc cc0_scratch4), ⌜YgOk A c D f⌝ ∗ pt c cc0_scratch4 f)
      ⊢ iprop(((opnds A c ∗ ∃ f : Buf (Elt F) ((c : Thread nD τ).loc cc0_scratch4), ⌜YgOk A c (s :: D) f⌝ ∗ pt c cc0_scratch4 f) -∗ WP c k Q)
          -∗ WP c (chunk c s k) Q) := by
  unfold opnds chunk
  iintro ⟨⟨Hx, Hg, Hi, He⟩, ⟨%f, %hf, Hy⟩⟩ Hk
  iapply (wp_load_rect 𝒱₀ (c : Thread nD τ) none Set.univ (m := xbM) (r := xR c s) (Finset.subset_univ _)) $$ Hx; iintro Hx
  iapply (wp_load_rect 𝒱₀ (c : Thread nD τ) none Set.univ (m := gM) (r := gR c s) (Finset.subset_univ _)) $$ Hg; iintro Hg
  iapply (wp_load_rect 𝒱₀ (c : Thread nD τ) none Set.univ (m := ixM) (r := iR c s) (Finset.subset_univ _)) $$ Hi; iintro Hi
  iapply (wp_load_rect 𝒱₀ (c : Thread nD τ) none Set.univ (m := ygM) (r := ygR s) (Finset.subset_univ _)) $$ Hy; iintro Hy
  iapply (wp_store 𝒱₀ (c : Thread nD τ) none Set.univ (m := ygM) (r := ygR s) (Mk := Finset.univ) (Finset.subset_univ _)) $$ Hy; iintro Hy
  iapply Hk
  isplitr [Hy]
  · isplitl [Hx]; · iexact Hx
    isplitl [Hg]; · iexact Hg
    isplitl [Hi]; · iexact Hi
    iexact He
  iexists _
  isplitr
  · ipureintro; exact YgOk_store A c s hf
  iexact Hy

theorem run_chunks (k : Pg F) (Q : PUnit → sProp (MM F)) : ∀ (l D : List (Fin 16)),
    iprop(opnds A c ∗ ∃ f : Buf (Elt F) ((c : Thread nD τ).loc cc0_scratch4), ⌜YgOk A c D f⌝ ∗ pt c cc0_scratch4 f)
      ⊢ iprop(((opnds A c ∗ ∃ f : Buf (Elt F) ((c : Thread nD τ).loc cc0_scratch4), ⌜YgOk A c (l.reverse ++ D) f⌝ ∗ pt c cc0_scratch4 f) -∗ WP c k Q)
          -∗ WP c (chunks c l k) Q)
  | [], D => by
    unfold chunks
    iintro H Hk
    iapply Hk; iexact H
  | s :: l, D => by
    unfold chunks
    iintro H Hk
    iapply (run_chunk A c s D (chunks c l k) Q) $$ H
    iintro H
    iapply (run_chunks k Q l (s :: D)) $$ H
    rw [List.reverse_cons, List.append_assoc, List.singleton_append]
    iexact Hk

/-- The product of a packed group, in its rows. -/
theorem run_prod (Y : Dev nD → Vec F S512x1024 .bf16) (hY : Y c = A.yb c) (g : Fin 4) (D : List (Fin 16)) (hD : ∀ s ∈ chunksOf g, s ∈ D)
    (f' : Buf (Elt F) ((c : Thread nD τ).loc cc0_scratch5)) (k : Pg F) (Q : PUnit → sProp (MM F)) :
    iprop(opnds A c ∗ (∃ f : Buf (Elt F) ((c : Thread nD τ).loc cc0_scratch4), ⌜YgOk A c D f⌝ ∗ pt c cc0_scratch4 f) ∗ grp c g f')
      ⊢ iprop(((opnds A c ∗ (∃ f : Buf (Elt F) ((c : Thread nD τ).loc cc0_scratch4), pt c cc0_scratch4 f) ∗ grp c g (Y c)) -∗ WP c k Q)
          -∗ WP c (groupProd g k) Q) := by
  unfold opnds groupProd grp
  iintro ⟨⟨Hx, Hg, Hi, He⟩, ⟨%f, %hf, Hy⟩, Hb⟩ Hk
  iapply (wp_load_rect 𝒱₀ (c : Thread nD τ) none Set.univ (m := ygM) (r := ygG g) (Finset.subset_univ _)) $$ Hy; iintro Hy
  iapply (wp_load 𝒱₀ (c : Thread nD τ) none Set.univ (m := ebM) (Finset.subset_univ _)) $$ He; iintro He
  iapply (wp_load_rect 𝒱₀ (c : Thread nD τ) none Set.univ (m := ybM) (r := ybG g) (S := (ybG g).set) (View.set_slice_whole _ _).subset) $$ Hb; iintro Hb
  iapply (wp_store 𝒱₀ (c : Thread nD τ) none Set.univ (m := ybM) (r := ybG g) (Mk := Finset.univ) (S := (ybG g).set)
    (by rw [View.setOn_univ]; exact (View.set_slice_whole _ _).subset)) $$ Hb; iintro Hb
  iapply Hk
  isplitr [Hy Hb]
  · isplitl [Hx]; · iexact Hx
    isplitl [Hg]; · iexact Hg
    isplitl [Hi]; · iexact Hi
    iexact He
  isplitl [Hy]; · iexists f; iexact Hy
  iapply (Entails.of_eq (pointsTo_congr (fun i hi => ?_))) $$ Hb
  rw [← Rect.map_emb_univ, Finset.mem_map] at hi
  obtain ⟨j, -, rfl⟩ := hi
  rw [hY, yb_emb]
  refine ((View.write_emb_of_mem (v := ybM.access (ybG g)) f' _ (Finset.mem_univ j)).trans (cast_eq _ _)).trans ?_
  rw [read_eb]
  exact congrArg (fun z => product z A.eb j) (YgOk_group A c g hf hD)

/-! ## Groups -/

/-- The chunk a group leaves unsent. -/
def kept : Fin 4 → List (Fin 16)
  | ⟨3, _⟩ => [ownChunk]
  | _ => []
theorem chunksOf_eq (g : Fin 4) : chunksOf g = (sendsOf g).map chunkOf ++ kept g := by revert g; decide

variable (Y : Dev nD → Vec F S512x1024 .bf16) (K : Dev nD × Option (Bool × Fin 15) → ℕ)

/-- The packed tokens' buffer at anything. -/
def ygAny : sProp (MM F) := iprop(∃ f : Buf (Elt F) ((c : Thread nD τ).loc cc0_scratch4), pt c cc0_scratch4 f)
/-- What a group needs; what it leaves. -/
def grpB (f' : Buf (Elt F) ((c : Thread nD τ).loc cc0_scratch5)) (g : Fin 4) : sProp (MM F) := iprop(grp c g f' ∗ bigSepL (sendsOf g) (sendB Y K c))
def grpD (g : Fin 4) : sProp (MM F) :=
  iprop(bigSepL (sendsOf g) (fun i => cred (tallyAt (sendCell c i) () N)) ∗ bigSepL (kept g) (rowsFull Y c))

theorem run_group (hY : Y c = A.yb c) (g : Fin 4) (f' : Buf (Elt F) ((c : Thread nD τ).loc cc0_scratch5)) (r : List (Fin 15)) (k : Pg F) (Q : PUnit → sProp (MM F)) :
    iprop(opnds A c ∗ ygAny c ∗ grpB c Y K f' g ∗ owesE c (oSend c (sendsOf g ++ r)))
      ⊢ iprop(((opnds A c ∗ ygAny c ∗ grpD c Y g ∗ owesE c (oSend c r)) -∗ WP c k Q) -∗ WP c (group c g k) Q) := by
  unfold ygAny grpB grpD group
  iintro ⟨Ho, ⟨%f, Hy⟩, ⟨Hg, Hs⟩, HO⟩ Hk
  iapply (run_chunks A c _ Q (chunksOf g) []) $$ [Ho Hy]
  · isplitl [Ho]; · iexact Ho
    iexists f
    isplitr; · ipureintro; exact fun s hs => absurd hs List.not_mem_nil
    iexact Hy
  iintro ⟨Ho, Hy⟩
  iapply (run_prod A c Y hY g ((chunksOf g).reverse ++ []) (fun s hs => by rw [List.append_nil]; exact List.mem_reverse.mpr hs) f' _ Q) $$ [Ho Hy Hg]
  · isplitl [Ho]; · iexact Ho
    isplitl [Hy]; · iexact Hy
    iexact Hg
  iintro ⟨Ho, Hy, Hg⟩
  ihave Hr := ((split_chunks Y c g).trans (Entails.of_eq (by rw [chunksOf_eq, bigSepL_append]))) $$ Hg
  icases Hr with ⟨Hr, Hkept⟩
  iapply (run_sends Y K c r k Q (sendsOf g)) $$ [Hs Hr HO]
  · isplitl [Hs]; · iexact Hs
    isplitl [Hr]; · iexact Hr
    iexact HO
  iintro ⟨Hc, HO⟩
  iapply Hk
  isplitl [Ho]; · iexact Ho
  isplitl [Hy]; · iexact Hy
  isplitr [HO]
  · isplitl [Hc] <;> iassumption
  iexact HO

theorem run_groups (hY : Y c = A.yb c) (f' : Buf (Elt F) ((c : Thread nD τ).loc cc0_scratch5)) (k : Pg F) (Q : PUnit → sProp (MM F)) : ∀ l : List (Fin 4),
    iprop(opnds A c ∗ ygAny c ∗ bigSepL l (grpB c Y K f') ∗ owesE c (oSend c (l.flatMap sendsOf)))
      ⊢ iprop(((opnds A c ∗ ygAny c ∗ bigSepL l (grpD c Y) ∗ owesE c 0) -∗ WP c k Q) -∗ WP c (groups c l k) Q)
  | [] => by
    unfold groups
    iintro H Hk
    iapply Hk; iexact H
  | g :: l => by
    rw [List.flatMap_cons, bigSepL_cons', bigSepL_cons']; unfold groups
    iintro ⟨Ho, Hy, ⟨Hg, Hl⟩, HO⟩ Hk
    iapply (run_group A c Y K hY g f' (l.flatMap sendsOf) (groups c l k) Q) $$ [Ho Hy Hg HO]
    · isplitl [Ho]; · iexact Ho
      isplitl [Hy]; · iexact Hy
      isplitl [Hg]; · iexact Hg
      iexact HO
    iintro ⟨Ho, Hy, Hg, HO⟩
    iapply (run_groups hY f' k Q l) $$ [Ho Hy Hl HO]
    · isplitl [Ho]; · iexact Ho
      isplitl [Hy]; · iexact Hy
      isplitl [Hl]; · iexact Hl
      iexact HO
    iintro ⟨Ho, Hy, Hl, HO⟩
    iapply Hk
    isplitl [Ho]; · iexact Ho
    isplitl [Hy]; · iexact Hy
    isplitr [HO]
    · isplitl [Hg] <;> iassumption
    iexact HO

/-! ## The rest of the body -/

/-- The staged operands a device reads whole, and the scratch buffers at anything. -/
def staged : sProp (MM F) := iprop(pt c cc0_stg0_0 A.x ∗ pt c cc0_stg1_0 A.rw ∗ pt c cc0_stg3_0 A.e ∗ pt c cc0_stg4_0 A.sw)
def anyPt (b : Ref sig .tc) : sProp (MM F) := iprop(∃ f : Buf (Elt F) ((c : Thread nD τ).loc b), pt c b f)

theorem run_stage (k : Pg F) (Q : PUnit → sProp (MM F)) :
    iprop(staged A c ∗ pt c cc0_stg2_0 A.ix ∗ anyPt c cc0_scratch0 ∗ anyPt c cc0_scratch1 ∗ anyPt c cc0_scratch2 ∗ anyPt c cc0_scratch3)
      ⊢ iprop(((staged A c ∗ opnds A c ∗ pt c cc0_scratch3 A.sb) -∗ WP c k Q) -∗ WP c (stage k) Q) := by
  unfold staged opnds anyPt stage
  iintro ⟨⟨Hx, Hrw, He, Hsw⟩, Hi, ⟨%f0, Hg⟩, ⟨%f1, Hxb⟩, ⟨%f2, Heb⟩, ⟨%f3, Hsb⟩⟩ Hk
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hxb; iintro Hxb
  iapply (wp_store 𝒱₀ (c : Thread nD τ) none Set.univ (m := xbM) (r := Rect.unit (s := S2048x512) ![0, 0] S2048x512.size inb_S2048x512_S2048x512_0_0) (Mk := Finset.univ) (Finset.subset_univ _)) $$ Hxb; iintro Hxb
  rw [write_xb, read_x]
  iapply (wp_load 𝒱₀ (c : Thread nD τ) none Set.univ (m := eM) (Finset.subset_univ _)) $$ He; iintro He
  iapply (wp_load 𝒱₀ (c : Thread nD τ) none Set.univ (m := ebM) (Finset.subset_univ _)) $$ Heb; iintro Heb
  iapply (wp_store 𝒱₀ (c : Thread nD τ) none Set.univ (m := ebM) (r := Rect.unit (s := S4096x1024) ![0, 0] S4096x1024.size inb_S4096x1024_S4096x1024_0_0) (Mk := Finset.univ) (Finset.subset_univ _)) $$ Heb; iintro Heb
  rw [write_eb, read_e]
  iapply (wp_load 𝒱₀ (c : Thread nD τ) none Set.univ (m := swM) (Finset.subset_univ _)) $$ Hsw; iintro Hsw
  iapply (wp_load 𝒱₀ (c : Thread nD τ) none Set.univ (m := sbM) (Finset.subset_univ _)) $$ Hsb; iintro Hsb
  iapply (wp_store 𝒱₀ (c : Thread nD τ) none Set.univ (m := sbM) (r := Rect.unit (s := S512x1024) ![0, 0] S512x1024.size inb_S512x1024_S512x1024_0_0) (Mk := Finset.univ) (Finset.subset_univ _)) $$ Hsb; iintro Hsb
  rw [write_sb, read_sw]
  iapply (wp_load 𝒱₀ (c : Thread nD τ) none Set.univ (m := xbM) (Finset.subset_univ _)) $$ Hxb; iintro Hxb
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hi; iintro Hi
  iapply (wp_load 𝒱₀ (c : Thread nD τ) none Set.univ (m := gM) (Finset.subset_univ _)) $$ Hg; iintro Hg
  iapply (wp_store 𝒱₀ (c : Thread nD τ) none Set.univ (m := gM) (r := Rect.unit (s := S2048x128) ![0, 0] S2048x128.size inb_S2048x128_S2048x128_0_0) (Mk := Finset.univ) (Finset.subset_univ _)) $$ Hg; iintro Hg
  rw [write_gt, read_xb, read_rw, read_ix]
  iapply Hk
  isplitl [Hx Hrw He Hsw]
  · isplitl [Hx]; · iexact Hx
    isplitl [Hrw]; · iexact Hrw
    isplitl [He]; · iexact He
    iexact Hsw
  isplitr [Hsb]
  · isplitl [Hxb]; · iexact Hxb
    isplitl [Hg]; · iexact Hg
    isplitl [Hi]; · iexact Hi
    iexact Heb
  iexact Hsb

theorem run_combine (k : FVec F S128x1024 .f32 → Pg F) (Q : PUnit → sProp (MM F)) :
    iprop(opnds A c ∗ pt c cc0_scratch3 A.sb ∗ rowsFull Y c ownChunk ∗ bigSepL fifteen (recvB Y K c) ∗ owesE c 0)
      ⊢ iprop(((opnds A c ∗ pt c cc0_scratch3 A.sb ∗ rowsFull Y c ownChunk ∗ bigSepL fifteen (recvD Y c) ∗ owesE c 0) -∗ WP c (k (outOf Y A c)) Q)
          -∗ WP c (combine c k) Q) := by
  unfold opnds rowsFull owns combine
  iintro ⟨⟨Hxb, Hg, Hi, Heb⟩, Hsb, ⟨%f, %hf, Hr⟩, Hl, HO⟩ Hk
  iapply (wp_load_rect 𝒱₀ (c : Thread nD τ) none Set.univ (m := ixM) (r := iOwn c) (Finset.subset_univ _)) $$ Hi; iintro Hi
  iapply (wp_load_rect 𝒱₀ (c : Thread nD τ) none Set.univ (m := xbM) (r := xOwn c) (Finset.subset_univ _)) $$ Hxb; iintro Hxb
  iapply (wp_load 𝒱₀ (c : Thread nD τ) none Set.univ (m := sbM) (Finset.subset_univ _)) $$ Hsb; iintro Hsb
  iapply (wp_load_rect 𝒱₀ (c : Thread nD τ) none Set.univ (m := ybM) (r := ybR ownChunk) (S := (rowsM ownChunk).view.set) (f := f)
    (Finset.Subset.refl _)) $$ Hr; iintro Hr
  rw [read_sb]
  iapply (run_recvs Y K c _ k Q fifteen _) $$ [Hl HO]
  · isplitl [Hl]; · iexact Hl
    iexact HO
  iintro ⟨Hl, HO⟩
  ihave Hw := Hk $$ [Hxb Hg Hi Heb Hsb Hr Hl HO]
  · isplitl [Hxb Hg Hi Heb]
    · isplitl [Hxb]; · iexact Hxb
      isplitl [Hg]; · iexact Hg
      isplitl [Hi]; · iexact Hi
      iexact Heb
    isplitl [Hsb]; · iexact Hsb
    isplitl [Hr]
    · iexists f
      isplitr; · ipureintro; exact hf
      iexact Hr
    isplitl [Hl] <;> iassumption
  rw [show outOf Y A c = accum Y c (A.rt c) fifteen (scattered (loWord c) (A.rt c) (A.acc0 c) ((ybM.access (ybR ownChunk)).read (Elt F) f)) from
    congrArg (fun z => accum Y c (A.rt c) fifteen (scattered (loWord c) (A.rt c) (A.acc0 c) z)) hf.symm]
  iexact Hw

theorem run_emit (out : FVec F S128x1024 .f32) (k : Pg F) (Q : PUnit → sProp (MM F)) :
    iprop(anyPt c cc0_stg5_0) ⊢ iprop((pt c cc0_stg5_0 out -∗ WP c k Q) -∗ WP c (emit out k) Q) := by
  unfold anyPt emit
  iintro ⟨%f, Ho⟩ Hk
  iapply (wp_load 𝒱₀ (c : Thread nD τ) none Set.univ (m := outM) (Finset.subset_univ _)) $$ Ho; iintro Ho
  iapply (wp_store 𝒱₀ (c : Thread nD τ) none Set.univ (m := outM) (r := Rect.unit (s := S128x1024) ![0, 0] S128x1024.size inb_S128x1024_S128x1024_0_0) (Mk := Finset.univ) (Finset.subset_univ _)) $$ Ho; iintro Ho
  rw [write_out]
  iapply Hk; iexact Ho

end Local

end Cert.Moe

end
-- ==== Proof.Body.lean ====
/-
# The whole body

What a device starts from, and what it leaves: its rows in the output buffer and every counter at zero.
-/
module

public import proofs.«01_k».proof.Proof.Run

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

omit [FloatOps F] in
theorem sepL_sep {I : Type} (l : List I) (Φ Ψ : I → sProp (MM F)) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    have swap : ∀ P P' R R' : sProp (MM F), iprop((P ∗ P') ∗ R ∗ R') ⊢ iprop((P ∗ R) ∗ P' ∗ R') := by
      intro P P' R R'
      iintro ⟨⟨H1, H2⟩, H3, H4⟩
      isplitl [H1 H3]
      · isplitl [H1] <;> iassumption
      · isplitl [H2] <;> iassumption
    exact equiv_iff.mp ⟨swap _ _ _ _, swap _ _ _ _⟩

omit [FloatOps F] in
theorem sepL_flatMap {I J : Type} (f : I → List J) (Φ : J → sProp (MM F)) : ∀ l : List I, bigSepL (l.flatMap f) Φ = bigSepL l fun i => bigSepL (f i) Φ
  | [] => rfl
  | i :: l => by rw [List.flatMap_cons, bigSepL_append, bigSepL_cons', sepL_flatMap f Φ l]

theorem sends_all : four.flatMap sendsOf = fifteen := by decide
theorem kept_all : four.flatMap kept = [ownChunk] := by decide

variable (Y : Dev nD → Vec F S512x1024 .bf16) (K : Dev nD × Option (Bool × Fin 15) → ℕ) (A : Inputs F) (c : Dev nD)

/-- The ghost state of signal `i` and of the receive in slot `k`, without the slot and the credit. -/
def sigG (i : Fin 15) : sProp (MM F) :=
  iprop(barInv Y K (nb c i) ∗ dutyTok ER (barCell (nb c i)) 0 (opp i) ∗ reached ER (barCell (nb c i)) 0 ∗ reached ER (recvCell c i) 0)
def recvG (k : Fin 15) : sProp (MM F) := iprop(recvInv Y K c k ∗ atPos ER (recvCell c k) 0 ∅ 0)

/-- Everything device `c` holds of the protocol at the start, at the names `K`; its credit. -/
def ghost : sProp (MM F) :=
  iprop(bigSepL fifteen (sigG Y K c) ∗ (barInv Y K c ∗ atPos ER (barCell c) 0 ∅ 0) ∗ bigSepL fifteen (sendG Y K c)
    ∗ bigSepL fifteen (recvG Y K c) ∗ bigSepL fifteen (sentG Y K c))
def credits : sProp (MM F) := iprop(cred (tallyAt (barCell c) () 15) ∗ bigSepL fifteen fun k => cred (tallyAt (recvCell c k) () N))

/-- The scratch buffers, at anything. -/
def scratch : sProp (MM F) :=
  iprop(anyPt c cc0_scratch0 ∗ anyPt c cc0_scratch1 ∗ anyPt c cc0_scratch2 ∗ anyPt c cc0_scratch3 ∗ anyPt c cc0_scratch4 ∗ anyPt c cc0_scratch5 ∗ anyPt c cc0_scratch6)
/-- The counters at zero. -/
def zeros : sProp (MM F) :=
  iprop(semVal (barCell c) 0 ∗ (bigSepL fifteen fun i => semVal (sendCell c i) 0) ∗ bigSepL fifteen fun k => semVal (recvCell c k) 0)

omit [FloatOps F] in
theorem sig_intro : iprop(bigSepL fifteen (sigG Y K c) ∗ bigSepL fifteen (slotAny (F := F) c)) ⊢ bigSepL fifteen (sigB Y K c) := by
  rw [← sepL_sep]
  refine bigSepL_mono fun i _ => ?_
  unfold sigG sigB
  iintro ⟨⟨H1, H2, H3, H4⟩, Hs⟩
  isplitl [H1]; · iexact H1
  isplitl [H2]; · iexact H2
  isplitl [H3]; · iexact H3
  isplitl [Hs] <;> iassumption
omit [FloatOps F] in
theorem recv_intro : iprop(bigSepL fifteen (recvG Y K c) ∗ bigSepL fifteen fun k => cred (tallyAt (recvCell c k) () N)) ⊢ bigSepL fifteen (recvB Y K c) := by
  rw [← sepL_sep]
  refine bigSepL_mono fun i _ => ?_
  unfold recvG recvB
  iintro ⟨⟨H1, H2⟩, Hs⟩
  isplitl [H1]; · iexact H1
  isplitl [H2] <;> iassumption
omit [FloatOps F] in
theorem grp_intro (f' : Buf (Elt F) ((c : Thread nD τ).loc cc0_scratch5)) :
    iprop(pt c cc0_scratch5 f' ∗ bigSepL fifteen (sendG Y K c) ∗ bigSepL fifteen (barPay (F := F) c)) ⊢ bigSepL four (grpB c Y K f') := by
  unfold grpB sendB
  rw [sepL_sep, ← sepL_flatMap, sends_all, sepL_sep]
  iintro ⟨H1, H2, H3⟩
  isplitl [H1]; · iapply (split_groups c f'); iexact H1
  isplitl [H2] <;> iassumption
omit [FloatOps F] in
theorem grp_elim : bigSepL four (grpD c Y) ⊢ iprop((bigSepL fifteen fun i => cred (tallyAt (sendCell c i) () N)) ∗ rowsFull Y c ownChunk) := by
  unfold grpD
  rw [sepL_sep, ← sepL_flatMap, ← sepL_flatMap, sends_all, kept_all, bigSepL_singleton]

/-- Device `c`'s body: from its operands `A` to its rows `outOf Y A c`. -/
theorem run_body (hY : Y c = A.yb c) (Q : PUnit → sProp (MM F)) :
    iprop(ghost Y K c ∗ credits c ∗ levAts L lv ∗ scratch c ∗ owesE c (O₀ c) ∗ (staged A c ∗ pt c cc0_stg2_0 A.ix) ∗ anyPt c cc0_stg5_0)
      ⊢ iprop(((zeros c ∗ scratch c ∗ owesE c 0 ∗ (staged A c ∗ pt c cc0_stg2_0 A.ix) ∗ pt c cc0_stg5_0 (outOf Y A c)) -∗ Q ⟨⟩) -∗ WP c body Q) := by
  unfold ghost credits scratch body
  iintro ⟨⟨Hsig, ⟨HIb, Hatb⟩, Hsend, Hrecv, Hsent⟩, ⟨Hcb, Hcr⟩, #Hlev, ⟨H0, H1, H2, H3, H4, H5, H6⟩, HO, ⟨Hst, Hix⟩, Hout⟩ Hk
  unfold WP; rw [wp_deviceId]
  unfold O₀
  ihave H6' := (show anyPt (F := F) c cc0_scratch6 ⊢ bigSepL fifteen (slotAny (F := F) c) by
    unfold anyPt; iintro ⟨%f, H⟩; iapply (split_slots c f); iexact H) $$ H6
  iapply (run_signals Y K c _ Q fifteen) $$ [Hsig H6' HO]
  · isplitl [Hsig H6']
    · iapply (sig_intro Y K c); isplitl [Hsig] <;> iassumption
    iexact HO
  iintro HO
  iapply (run_barrier Y K c _ Q) $$ [HIb Hatb Hcb HO]
  · isplitl [HIb Hatb Hcb]
    · isplitl [HIb]; · iexact HIb
      isplitl [Hatb] <;> iassumption
    isplitr; · iexact Hlev
    iexact HO
  iintro ⟨Hzb, Hpay, HO⟩
  iapply (run_stage A c _ Q) $$ [Hst Hix H0 H1 H2 H3]
  · isplitl [Hst]; · iexact Hst
    isplitl [Hix]; · iexact Hix
    isplitl [H0]; · iexact H0
    isplitl [H1]; · iexact H1
    isplitl [H2] <;> iassumption
  iintro ⟨Hst, Hop, H3⟩
  unfold anyPt
  icases H5 with ⟨%f5, H5⟩
  iapply (run_groups A c Y K hY f5 _ Q four) $$ [Hop H4 H5 Hsend Hpay HO]
  · isplitl [Hop]; · iexact Hop
    isplitl [H4]; · unfold ygAny; iexact H4
    isplitl [H5 Hsend Hpay]
    · iapply (grp_intro Y K c f5)
      isplitl [H5]; · iexact H5
      isplitl [Hsend] <;> iassumption
    rw [sends_all]; iexact HO
  iintro ⟨Hop, H4, Hgrp, HO⟩
  ihave Hg := (grp_elim Y c) $$ Hgrp
  icases Hg with ⟨Hcs, Hrows⟩
  iapply (run_combine A c Y K _ Q) $$ [Hop H3 Hrows Hrecv Hcr HO]
  · isplitl [Hop]; · iexact Hop
    isplitl [H3]; · iexact H3
    isplitl [Hrows]; · iexact Hrows
    isplitl [Hrecv Hcr]
    · iapply (recv_intro Y K c); isplitl [Hrecv] <;> iassumption
    iexact HO
  iintro ⟨Hop, H3, Hrows, Hrecv, HO⟩
  iapply (run_emit c (outOf Y A c) _ Q) $$ [Hout]
  · unfold anyPt; iexact Hout
  iintro Hout
  iapply (run_sent Y K c _ Q fifteen) $$ [Hsent Hcs HO]
  · isplitl [Hsent Hcs]
    · unfold sentB; rw [sepL_sep]; isplitl [Hsent] <;> iassumption
    iexact HO
  iintro ⟨Hsent, HO⟩
  unfold WP; rw [wp_ret]; imodintro
  iapply Hk
  unfold zeros opnds ygAny recvD sentD
  ihave Hrecv := (Entails.of_eq (sepL_sep fifteen (fun k => (semVal (recvCell c k) 0 : sProp (MM F))) (slotFull Y c))) $$ Hrecv
  ihave Hsent := (Entails.of_eq (sepL_sep fifteen (fun i => (semVal (sendCell c i) 0 : sProp (MM F))) (fun i => rowsFull Y c (chunkOf i)))) $$ Hsent
  icases Hrecv with ⟨Hzr, Hslots⟩
  icases Hsent with ⟨Hzs, Hrs⟩
  icases Hop with ⟨H1, H0, Hix, H2⟩
  isplitl [Hzb Hzr Hzs]
  · isplitl [Hzb]; · iexact Hzb
    isplitl [Hzs] <;> iassumption
  isplitl [H0 H1 H2 H3 H4 Hrows Hrs Hslots]
  · isplitl [H0]; · iexists _; iexact H0
    isplitl [H1]; · iexists _; iexact H1
    isplitl [H2]; · iexists _; iexact H2
    isplitl [H3]; · iexists _; iexact H3
    isplitl [H4]; · iexact H4
    isplitl [Hrows Hrs]
    · iapply (join_rows Y c)
      rw [bigSepL_append, bigSepL_map, bigSepL_singleton]
      isplitl [Hrs] <;> iassumption
    iapply (join_slots Y c); iexact Hslots
  isplitl [HO]; · iexact HO
  isplitl [Hst Hix]
  · isplitl [Hst] <;> iassumption
  iexact Hout

end Cert.Moe

end
-- ==== Proof.Launch.lean ====
/-
# The launch

The sixteen devices from memory to memory: the pipeline's data, the dealing of the duty tokens and of the credit,
and `run_main`, which says what every final memory holds.
-/
module

public import proofs.«01_k».proof.Proof.Body
public import proofs.«01_k».proof.Proof.Gen.KernelIdeal.Points

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Device `c`'s operands, all devices' products, and device `c`'s rows. -/
def inputs (c : Dev nD) : Inputs F where
  x := (win0_0.blk (0 : Fin 1)).view.read (Elt F) (m ((c : Thread nD τ).loc main_arg0))
  rw := (win0_1.blk (0 : Fin 1)).view.read (Elt F) (m ((c : Thread nD τ).loc main_arg1))
  ix := (win0_2.blk (0 : Fin 1)).view.read (Elt F) (m ((c : Thread nD τ).loc main_arg2))
  e := (win0_3.blk (0 : Fin 1)).view.read (Elt F) (m ((c : Thread nD τ).loc main_arg3))
  sw := (win0_4.blk (0 : Fin 1)).view.read (Elt F) (m ((c : Thread nD τ).loc main_arg4))
def prods (c : Dev nD) : Vec F S512x1024 .bf16 := (inputs m c).yb c
def rows (c : Dev nD) : FVec F S128x1024 .f32 := outOf (prods m) (inputs m c) c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts from. -/
def start (c : Dev nD) : sProp (MM F) := iprop((∃ K, ghost (prods m) K c) ∗ credits c ∗ levAts L lv)
def Φ₀ (c : Dev nD) : sProp (MM F) := iprop(start m c ∗ scratch c)
def Φ₁ (c : Dev nD) : sProp (MM F) := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m c).x
    | ⟨1, _⟩ => (inputs m c).rw
    | ⟨2, _⟩ => (inputs m c).ix
    | ⟨3, _⟩ => (inputs m c).e
    | ⟨4, _⟩ => (inputs m c).sw
    | ⟨5, _⟩ => rows m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_at (c : Dev nD) (b : Ref sig .tc) (X : b.ty.Contents (Elt F)) :
    (owns (Ix := Unit) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) :=
  owns_whole_eq (c : Thread nD τ) b fullShare X

/-- A staging buffer at contents `X`. -/
abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

def bodyPre (c : Dev nD) : sProp (MM F) :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp (MM F) :=
  iprop(Φ₁ c ∗ (dats m ρ 0 c).owesAt () t₀.succ
    ∗ stg c cc0_stg0_0 (inputs m c).x ∗ stg c cc0_stg1_0 (inputs m c).rw ∗ stg c cc0_stg2_0 (inputs m c).ix
    ∗ stg c cc0_stg3_0 (inputs m c).e ∗ stg c cc0_stg4_0 (inputs m c).sw ∗ stg c cc0_stg5_0 (rows m c))

omit [FloatOps F] in
theorem stg_drop (c : Dev nD) (b : Ref sig .tc) (X : b.ty.Contents (Elt F)) : stg c b X ⊢ pt c b X := by
  unfold stg; iintro ⟨%f, %h, H⟩; rw [← h]; iexact H
omit [FloatOps F] in
theorem stg_intro (c : Dev nD) (b : Ref sig .tc) (X : b.ty.Contents (Elt F)) : pt c b X ⊢ stg c b X := by
  unfold stg; iintro H; iexists X; isplitr; · ipureintro; rfl
  iexact H

theorem before_0 (c : Dev nD) (d) : (dats m ρ 0 c).before (0 : Fin 6) t₀ d = (inputs m c).x := by
  unfold Dat.before; rw [if_pos (fetch0_0 t₀)]; rfl
theorem before_1 (c : Dev nD) (d) : (dats m ρ 0 c).before (1 : Fin 6) t₀ d = (inputs m c).rw := by
  unfold Dat.before; rw [if_pos (fetch0_1 t₀)]; rfl
theorem before_2 (c : Dev nD) (d) : (dats m ρ 0 c).before (2 : Fin 6) t₀ d = (inputs m c).ix := by
  unfold Dat.before; rw [if_pos (fetch0_2 t₀)]; rfl
theorem before_3 (c : Dev nD) (d) : (dats m ρ 0 c).before (3 : Fin 6) t₀ d = (inputs m c).e := by
  unfold Dat.before; rw [if_pos (fetch0_3 t₀)]; rfl
theorem before_4 (c : Dev nD) (d) : (dats m ρ 0 c).before (4 : Fin 6) t₀ d = (inputs m c).sw := by
  unfold Dat.before; rw [if_pos (fetch0_4 t₀)]; rfl

theorem sound_body (c : Dev nD) : bodyPre m ρ c ⊢ WP c body (fun _ => bodyPost m ρ c) := by
  unfold bodyPre Φ₀ start
  simp only [before_0, before_1, before_2, before_3, before_4]
  unfold Dat.owesAt Pipeline.owesWithin
  iintro ⟨⟨⟨⟨%K, Hg⟩, Hcr, Hlev⟩, Hscr⟩, ⟨%W, %hW, HO⟩, ⟨%d0, H0⟩, ⟨%d1, H1⟩, ⟨%d2, H2⟩, ⟨%d3, H3⟩, ⟨%d4, H4⟩, ⟨%d5, ⟨%f5, -, H5⟩⟩⟩
  ihave H0 := (stg_drop c cc0_stg0_0 _) $$ H0
  ihave H1 := (stg_drop c cc0_stg1_0 _) $$ H1
  ihave H2 := (stg_drop c cc0_stg2_0 _) $$ H2
  ihave H3 := (stg_drop c cc0_stg3_0 _) $$ H3
  ihave H4 := (stg_drop c cc0_stg4_0 _) $$ H4
  iapply (run_body (prods m) K (inputs m c) c rfl fun _ => bodyPost m ρ c) $$ [Hg Hcr Hlev Hscr HO H0 H1 H2 H3 H4 H5]
  · isplitl [Hg]; · iexact Hg
    isplitl [Hcr]; · iexact Hcr
    isplitl [Hlev]; · iexact Hlev
    isplitl [Hscr]; · iexact Hscr
    isplitl [HO]
    · unfold owesE; iexists W; iexact HO
    isplitr [H5]
    · unfold staged
      isplitr [H2]
      · isplitl [H0]; · iexact H0
        isplitl [H1]; · iexact H1
        isplitl [H3]; · iexact H3
        iexact H4
      iexact H2
    unfold anyPt; iexists f5; iexact H5
  unfold staged
  iintro ⟨Hz, Hscr, HO, ⟨⟨H0, H1, H3, H4⟩, H2⟩, H5⟩
  unfold bodyPost Φ₁ Dat.owesAt Pipeline.owesWithin owesE
  icases HO with ⟨%W', HO⟩
  isplitl [Hscr Hz]
  · isplitl [Hscr] <;> iassumption
  isplitl [HO]
  · iexists W'
    isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  iapply (stg_intro c cc0_stg5_0 _); iexact H5

set_option maxRecDepth 100000 in
/-- The pipeline's obligation on the body. -/
theorem body_obligation (c : Dev nD) : BodyObligation (dats (F := F) m ρ 0 c) (defs₀ (F := F)) 𝒱₀ () Set.univ := fun t => by
  rw [fin_N t]
  rw [bigSep_W0, bigSep_W0]
  simp only [owns_whole_at]
  show bodyPre m ρ c ⊢ WP c
    (cc0__body (F := F) xM (Memref.isWhole_whole _) rwM (Memref.isWhole_whole _) ixM (Memref.isWhole_whole _) eM (Memref.isWhole_whole _)
      swM (Memref.isWhole_whole _) outM (Memref.isWhole_whole _) gM (Memref.isWhole_whole _) xbM (Memref.isWhole_whole _) ebM (Memref.isWhole_whole _)
      sbM (Memref.isWhole_whole _) ygM (Memref.isWhole_whole _) ybM (Memref.isWhole_whole _) rvM (Memref.isWhole_whole _) cc0_scratch7 cc0_scratch8) (fun _ => bodyPost m ρ c)
  rw [body_eq]
  exact sound_body m ρ c

end Cert.Moe

end
-- ==== Proof.Deal.lean ====
/-
# Dealing the ghost state

Every cell's tokens and positions are made at once, at launch; here they are dealt to the devices. A duty's token
goes to the device that pays it: barrier duty `k` and receive duty `k` of device `c` to `nb c k`.
-/
module

public import proofs.«01_k».proof.Proof.Body

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A device's cells: its barrier, its sends, its receives. -/
abbrev CI : Type := Option (Bool × Fin 15)

theorem ownSemFacts : Pipeline.OwnSemFacts cfg0.spec osem := by decide

theorem csem_injective : Function.Injective csem := by
  rintro (_ | ⟨_ | _, i⟩) (_ | ⟨_ | _, j⟩) h
  · rfl
  · exact absurd h.symm (dma_ne_bar _)
  · exact absurd h.symm (dma_ne_bar _)
  · exact absurd h (dma_ne_bar _)
  · obtain rfl := sendS_inj (i := i) (j := j) (dma_inj h); rfl
  · exact absurd (dma_inj h) (send_ne_recv _ _)
  · exact absurd h (dma_ne_bar _)
  · exact absurd (dma_inj h).symm (send_ne_recv _ _)
  · obtain rfl := recvS_inj (i := i) (j := j) (dma_inj h); rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

/-- A device's duties: the fifteen of its barrier, the one of each send, the one of each receive. -/
abbrev tokOf (x : Dev nD × Option Bool × Fin 15) : GSem nD τ sig × ℕ × Fin 15 :=
  (kcell (x.1, x.2.1.map fun b => (b, x.2.2)), 0, x.2.1.elim x.2.2 fun _ => 0)
theorem tokOf_injective : Function.Injective tokOf := by
  rintro ⟨c, o, i⟩ ⟨c', o', i'⟩ h
  have h1 := kcell_injective (congrArg (fun x : GSem nD τ sig × ℕ × Fin 15 => x.1) h)
  have hc : c = c' := congrArg Prod.fst h1
  have ho : o.map (fun b => (b, i)) = o'.map fun b => (b, i') := congrArg Prod.snd h1
  have hi : o.elim i (fun _ => 0) = o'.elim i' fun _ => 0 := congrArg (fun x : GSem nD τ sig × ℕ × Fin 15 => x.2.2) h
  subst hc
  cases o <;> cases o' <;> simp_all
def toks₀ : Finset (GSem nD τ sig × ℕ × Fin 15) := Finset.univ.map ⟨tokOf, tokOf_injective⟩

def u₀ : UU := (initOf (Pipeline.cells cfgs cellOf_inj) (Pipeline.launchToks cfgs cellOf_inj), initOf cells toks₀)

omit [FloatOps F] in
theorem sep_option {I : Type} [Fintype I] [DecidableEq I] (Φ : Option I → sProp (MM F)) :
    bigSep Finset.univ Φ = iprop(Φ none ∗ bigSep Finset.univ fun i => Φ (some i)) := by
  have h : (Finset.univ : Finset (Option I)) = insert none (Finset.univ.map Function.Embedding.some) := by
    ext o; cases o <;> simp
  rw [h, bigSep_insert (by simp), bigSep_map]; rfl
omit [FloatOps F] in
theorem sep_bool {I : Type} [Fintype I] (Φ : Bool × I → sProp (MM F)) :
    bigSep Finset.univ Φ = iprop((bigSep Finset.univ fun i => Φ (false, i)) ∗ bigSep Finset.univ fun i => Φ (true, i)) := by
  rw [bigSep_univ_prod, bigSep_univ_eq_bigSepL [false, true] (by decide) (by decide)]; rfl
omit [FloatOps F] in
theorem sep_ci (Φ : CI → sProp (MM F)) :
    bigSep Finset.univ Φ = iprop(Φ none ∗ (bigSep Finset.univ fun i => Φ (some (false, i))) ∗ bigSep Finset.univ fun k => Φ (some (true, k))) := by
  rw [sep_option, sep_bool]

/-- The duty tokens of device `c`'s own cells; the tokens of the duties it pays. -/
def toks (c : Dev nD) : sProp (MM F) :=
  iprop((bigSep Finset.univ fun i : Fin 15 => dutyTok ER (barCell c) 0 i) ∗ (bigSep Finset.univ fun i : Fin 15 => dutyTok ER (sendCell c i) 0 0)
    ∗ bigSep Finset.univ fun i : Fin 15 => dutyTok ER (recvCell c i) 0 0)
def payToks (c : Dev nD) : sProp (MM F) :=
  iprop((bigSep Finset.univ fun i : Fin 15 => dutyTok ER (barCell (nb c i)) 0 (opp i)) ∗ (bigSep Finset.univ fun i : Fin 15 => dutyTok ER (sendCell c i) 0 0)
    ∗ bigSep Finset.univ fun i : Fin 15 => dutyTok ER (recvCell (nb c i) (opp i)) 0 0)

omit [FloatOps F] in
theorem sep_swp (Φ : Dev nD → Fin 15 → sProp (MM F)) :
    (bigSep Finset.univ fun c => bigSep Finset.univ fun i => Φ c i) = bigSep Finset.univ fun c => bigSep Finset.univ fun i => Φ (nb c i) (opp i) := by
  rw [← bigSep_univ_prod (fun x : Dev nD × Fin 15 => Φ x.1 x.2), bigSep_univ_equiv swp, bigSep_univ_prod]; rfl

omit [FloatOps F] in
theorem toks_around : (bigSep Finset.univ fun c : Dev nD => (toks c : sProp (MM F))) ⊢ bigSep Finset.univ fun c : Dev nD => payToks c := by
  unfold toks payToks
  rw [bigSep_sep', bigSep_sep', bigSep_sep', bigSep_sep', sep_swp fun c i => dutyTok ER (barCell c) 0 i, sep_swp fun c i => dutyTok ER (recvCell c i) 0 0]

variable (Y : Dev nD → Vec F S512x1024 .bf16)

def G (c : Dev nD) : sProp (MM F) :=
  iprop((bigSep Finset.univ fun k : CI => roundState ER (sched Y) (kcell (c, k)) 0)
    ∗ (bigSep Finset.univ fun k : CI => iprop(atPos ER (kcell (c, k)) 0 ∅ 0 ∗ reached ER (kcell (c, k)) 0)) ∗ toks c)
def G' (c : Dev nD) : sProp (MM F) := iprop(∃ K, ghost Y K c)

omit [FloatOps F] in
theorem fund_all : BI.own (ER (initOf cells toks₀)) ⊢ (|==> bigSep Finset.univ (G Y) : sProp (MM F)) := by
  have hX (Φ : GSem nD τ sig → sProp (MM F)) : bigSep cells Φ = bigSep Finset.univ fun c : Dev nD => bigSep Finset.univ fun k : CI => Φ (kcell (c, k)) := by
    unfold cells; rw [bigSep_map, bigSep_univ_prod]; rfl
  have hT : bigSep toks₀ (fun x => (dutyTok ER x.1 x.2.1 x.2.2 : sProp (MM F))) = bigSep Finset.univ fun c : Dev nD => toks c := by
    unfold toks₀; rw [bigSep_map, bigSep_univ_prod]
    refine bigSep_congr fun c _ => ?_
    unfold toks; rw [bigSep_univ_prod, sep_option, bigSep_univ_eq_bigSepL [false, true] (by decide) (by decide)]; rfl
  iintro HX
  imod (Rounds.fund ER (sched Y) cells toks₀) $$ HX with ⟨Hst, Hr, Hat, Htok⟩
  imodintro
  ihave Hst' := (Entails.of_eq (hX fun g => roundState ER (sched Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp (MM F))
    = iprop((bigSep Finset.univ fun i : Fin 15 => semVal (sendCell c i) 0) ∗ bigSep Finset.univ fun k : Fin 15 => semVal (recvCell c k) 0) := by
  unfold Pipeline.ownSems0; rw [sep_bool]; rfl
omit [FloatOps F] in
theorem unscopedSems0_eq (c : Dev nD) : (unscopedSems0 c : sProp (MM F)) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp (MM F)) := by
  rw [ownSems0_eq, unscopedSems0_eq, sep_ci]
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G Y c)
      ⊢ |={Set.univ}=> iprop((bigSep Finset.univ fun k : CI => iprop(∃ κ : ℕ, cellInv ER (sched Y) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched Y) (kcell (c, k)) 0)
      ⊢ (|={Set.univ}=> bigSep Finset.univ fun k => iprop(∃ κ : ℕ, cellInv ER (sched Y) κ (kcell (c, k))) : sProp (MM F)) from by
        rw [← bigSep_sep']
        exact (bigSep_mono fun k _ => (Rounds.body_intro ER (sched Y) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may copy: each cell's invariant, and that it is at round 0. -/
def records (K : Dev nD × CI → ℕ) : sProp (MM F) :=
  iprop((bigSep Finset.univ fun ck : Dev nD × CI => cellInv ER (sched Y) (K ck) (kcell ck))
    ∗ bigSep Finset.univ fun ck : Dev nD × CI => reached ER (kcell ck) 0)

omit [FloatOps F] in
instance records_persistent (K : Dev nD × CI → ℕ) : BI.Persistent (records Y K) := by unfold records; infer_instance

omit [FloatOps F] in
theorem inv_at (K : Dev nD × CI → ℕ) (ck : Dev nD × CI) : (records Y K : sProp (MM F)) ⊢ cellInv ER (sched Y) (K ck) (kcell ck) := by
  unfold records; iintro ⟨H, -⟩
  iapply (show (bigSep Finset.univ fun ck : Dev nD × CI => (cellInv ER (sched Y) (K ck) (kcell ck) : sProp (MM F))) ⊢ cellInv ER (sched Y) (K ck) (kcell ck) from
    bigSep_elim (Finset.mem_univ ck))
  iexact H
omit [FloatOps F] in
theorem reached_at (K : Dev nD × CI → ℕ) (ck : Dev nD × CI) : (records Y K : sProp (MM F)) ⊢ reached ER (kcell ck) 0 := by
  unfold records; iintro ⟨-, H⟩
  iapply (show (bigSep Finset.univ fun ck : Dev nD × CI => (reached ER (kcell ck) 0 : sProp (MM F))) ⊢ reached ER (kcell ck) 0 from bigSep_elim (Finset.mem_univ ck))
  iexact H

def linear (c : Dev nD) : sProp (MM F) := iprop((bigSep Finset.univ fun k : CI => atPos ER (kcell (c, k)) 0 ∅ 0) ∗ payToks c)

omit [FloatOps F] in
/-- From what may be copied and a resource for each peer, a list over the peers. -/
theorem each {R : sProp (MM F)} [BI.Persistent R] {Φ Ψ : Fin 15 → sProp (MM F)} (h : ∀ i, iprop(R ∗ Φ i) ⊢ Ψ i) :
    iprop(R ∗ bigSep Finset.univ Φ) ⊢ bigSepL fifteen Ψ := by
  rw [← bigSep_fifteen]; exact bigSep_with_persistent fun i _ => h i

omit [FloatOps F] in
theorem ghost_intro (K : Dev nD × CI → ℕ) (c : Dev nD) : iprop(records Y K ∗ linear c) ⊢ G' Y c := by
  unfold linear payToks
  rw [sep_ci]
  iintro ⟨#R, ⟨HaB, HaS, HaV⟩, HtB, HtS, HtV⟩
  unfold G' ghost
  iexists K
  isplitl [HtB]
  · iapply (each (R := records Y K) (Φ := fun i => dutyTok ER (barCell (nb c i)) 0 (opp i)) (Ψ := sigG Y K c) fun i => by
      unfold sigG
      iintro ⟨#R, H⟩
      isplitr; · iapply (inv_at Y K (nb c i, none)); iexact R
      isplitl [H]; · iexact H
      isplitr; · iapply (reached_at Y K (nb c i, none)); iexact R
      iapply (reached_at Y K (c, some (true, i))); iexact R)
    isplitr; · iexact R
    iexact HtB
  isplitl [HaB]
  · isplitr; · iapply (inv_at Y K (c, none)); iexact R
    iexact HaB
  isplitl [HtS HtV]
  · iapply (each (R := records Y K) (Φ := fun i => iprop(dutyTok ER (sendCell c i) 0 0 ∗ dutyTok ER (recvCell (nb c i) (opp i)) 0 0)) (Ψ := sendG Y K c) fun i => by
      unfold sendG
      iintro ⟨#R, H, H'⟩
      isplitr; · iapply (inv_at Y K (c, some (false, i))); iexact R
      isplitr; · iapply (inv_at Y K (nb c i, some (true, opp i))); iexact R
      isplitl [H]; · iexact H
      isplitr; · iapply (reached_at Y K (c, some (false, i))); iexact R
      iexact H')
    isplitr; · iexact R
    rw [bigSep_sep']
    isplitl [HtS] <;> iassumption
  isplitl [HaV]
  · iapply (each (R := records Y K) (Φ := fun k => atPos ER (recvCell c k) 0 ∅ 0) (Ψ := recvG Y K c) fun k => by
      unfold recvG
      iintro ⟨#R, H⟩
      isplitr; · iapply (inv_at Y K (c, some (true, k))); iexact R
      iexact H)
    isplitr; · iexact R
    iexact HaV
  · iapply (each (R := records Y K) (Φ := fun i => atPos ER (sendCell c i) 0 ∅ 0) (Ψ := sentG Y K c) fun i => by
      unfold sentG
      iintro ⟨#R, H⟩
      isplitr; · iapply (inv_at Y K (c, some (false, i))); iexact R
      iexact H)
    isplitr; · iexact R
    iexact HaS

omit [FloatOps F] in
theorem regroup :
    (bigSep Finset.univ fun c : Dev nD => iprop((bigSep Finset.univ fun k : CI => iprop(∃ κ : ℕ, cellInv ER (sched Y) κ (kcell (c, k))))
          ∗ (bigSep Finset.univ fun k : CI => iprop(atPos ER (kcell (c, k)) 0 ∅ 0 ∗ reached ER (kcell (c, k)) 0)) ∗ toks c) : sProp (MM F))
      ⊢ bigSep Finset.univ (G' Y) := by
  rw [bigSep_sep', bigSep_sep', ← bigSep_univ_prod (fun ck : Dev nD × CI => iprop(∃ κ : ℕ, cellInv ER (sched Y) κ (kcell ck))),
    bigSep_congr (s := Finset.univ) (fun (c : Dev nD) _ => bigSep_sep' Finset.univ (fun k : CI => (atPos ER (kcell (c, k)) 0 ∅ 0 : sProp (MM F))) (fun k => reached ER (kcell (c, k)) 0)),
    bigSep_sep', ← bigSep_univ_prod (fun ck : Dev nD × CI => (reached ER (kcell ck) 0 : sProp (MM F)))]
  iintro ⟨HI, ⟨Hat, #HR⟩, Htok⟩
  ihave HK := (BI.bigSep_exists_pi Finset.univ (fun (ck : Dev nD × CI) (κ : ℕ) => (cellInv ER (sched Y) κ (kcell ck) : sProp (MM F)))) $$ HI
  icases HK with ⟨%K, #HI⟩
  ihave Htk := (toks_around (F := F)) $$ Htok
  iapply (bigSep_with_persistent (R := records Y K) fun c _ => ghost_intro Y K c)
  isplitr
  · unfold records; isplitl; · iexact HI
    iexact HR
  · iapply (show iprop((bigSep Finset.univ fun c : Dev nD => bigSep Finset.univ fun k : CI => (atPos ER (kcell (c, k)) 0 ∅ 0 : sProp (MM F))) ∗ bigSep Finset.univ payToks)
        ⊢ bigSep Finset.univ linear from Entails.of_eq (bigSep_sep' Finset.univ _ _).symm)
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G Y c) : sProp (MM F))
    ⊢ |={Set.univ}=> bigSep Finset.univ (G' Y) :=
  ((bigSep_mono fun c _ => core_alloc Y c).trans (bigSep_fupd _ _)).trans (BI.fupd_mono (regroup Y))

/-! ## The credit -/

/-- What device `c` waits for: fifteen units of its barrier, and every receive. -/
def waitsFor (c : Dev nD) : CellTallies nD τ sig Unit := tallyAt (barCell c) () 15 + ∑ k : Fin 15, tallyAt (recvCell c k) () N

theorem oSend_sum (c : Dev nD) (l : List (Fin 15)) (hl : l.Nodup) : oSend c l = ∑ i ∈ l.toFinset, tallyAt (recvCell (nb c i) (opp i)) () N := by
  induction l with
  | nil => rfl
  | cons i l ih =>
    rw [oSend, ih hl.of_cons, List.toFinset_cons, Finset.sum_insert (by simpa using (List.nodup_cons.mp hl).1), add_comm]
theorem oSig_sum (c : Dev nD) (l : List (Fin 15)) (hl : l.Nodup) :
    oSig c l = oSend c fifteen + ∑ i ∈ l.toFinset, tallyAt (barCell (nb c i)) () 1 := by
  induction l with
  | nil => rw [oSig]; exact (add_zero _).symm
  | cons i l ih =>
    rw [oSig, ih hl.of_cons, List.toFinset_cons, Finset.sum_insert (by simpa using (List.nodup_cons.mp hl).1), add_assoc, add_comm (tallyAt _ _ _)]
theorem O₀_sum (c : Dev nD) : O₀ c = (∑ i : Fin 15, tallyAt (recvCell (nb c i) (opp i)) () N) + ∑ i : Fin 15, tallyAt (barCell (nb c i)) () 1 := by
  unfold O₀; rw [oSig_sum c _ nodup_fifteen, oSend_sum c _ nodup_fifteen, ← univ_fifteen]

theorem sum_swp {M : Type} [AddCommMonoid M] (f : Dev nD → Fin 15 → M) : (∑ c, ∑ i, f (nb c i) (opp i)) = ∑ c, ∑ i, f c i := by
  rw [← Fintype.sum_prod_type', ← Fintype.sum_prod_type', ← Equiv.sum_comp swp fun x : Dev nD × Fin 15 => f x.1 x.2]; rfl

theorem tally_fifteen (g : GSem nD τ sig) : (∑ _i : Fin 15, (tallyAt g () 1 : CellTallies nD τ sig Unit)) = tallyAt g () 15 := by
  simp only [Fin.sum_univ_succ, Fin.sum_univ_zero, add_zero, tallyAt_add, Nat.reduceAdd]

theorem owed_sum : (∑ d, O₀ d) = ∑ d, waitsFor d := by
  simp only [O₀_sum, waitsFor, Finset.sum_add_distrib]
  rw [sum_swp fun c i => tallyAt (recvCell c i) () N, sum_swp fun c _ => tallyAt (barCell c) () 1, add_comm]
  simp only [tally_fifteen]

theorem waitsFor_at (d : Dev nD) (g : GSem nD τ sig) (h : waitsFor d g ≠ 0) : g.1 = (d : Thread nD τ) := by
  by_contra hg
  refine h ?_
  unfold waitsFor
  rw [Pi.add_apply, Finset.sum_apply, tallyAt_ne_cell (fun h' : g = barCell d => hg (by rw [h'])), zero_add]
  exact Finset.sum_eq_zero fun k _ => tallyAt_ne_cell (fun h' : g = recvCell d k => hg (by rw [h'])) _ _

omit [FloatOps F] in
theorem creds (c : Dev nD) : (Pipeline.launchCred O₀ c : sProp (MM F)) ⊢ credits c := by
  rw [Pipeline.launchCred_of_sum O₀ waitsFor owed_sum waitsFor_at c]
  unfold waitsFor credits
  rw [← bigSep_fifteen, ← Pipeline.cred_finsetSum]
  exact (cred_add _ _).1

end Cert.Moe

end
-- ==== Proof.Main.lean ====
/-
# From memory to memory

`run_main`: from any memory with zero counters every weakly fair execution of the sixteen devices ends, each device's
arrays are those of the pipeline's data, and every counter is zero again.
-/
module

public import proofs.«01_k».proof.Proof.Launch
public import proofs.«01_k».proof.Proof.Deal
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m) c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch anyPt
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_fifteen, bigSep_fifteen]
  unfold Φ₁ zeros scratch anyPt
  iintro ⟨Hr, HzB, HzS, HzV⟩
  isplitl [HzB]; · iexact HzB
  isplitl [HzS HzV]
  · isplitl [HzS] <;> iassumption
  iexact Hr

theorem stage_not_recv : ∀ (w : Fin cfg0.W) (s : Fin (cfg0.win w).nbuf) (k : Fin 15), (cfg0.win w).sem s ≠ recvS k := by decide

theorem waits (c : Dev nD) : (levAts L lv : sProp (MM F)) ⊢ Pipeline.cellsWaits cfgs (dats m ρ) () 0 c :=
  Pipeline.cellsWaits_intro cfgs (dats m ρ) () 0 c fun w s t =>
    mayWait_stage c _ (stage_not_recv w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m)) (G' := G' (prods m)) (u₀ := u₀)
    (hu₀ := by
      unfold u₀
      iintro Hu
      ihave H := (ownU_pair _ _) $$ Hu
      icases H with ⟨HP, HX⟩
      imod (fund_all (prods m)) $$ HX with HG
      imodintro
      isplitl [HP] <;> iassumption)
    (hglob := glob (prods m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_0 (c : Dev nD) : finalA m ρ c (0 : Fin 6) = m ((c : Thread nD τ).loc main_arg0) := (dats (F := F) m ρ 0 c).arrAt_in (0 : Fin 6) rfl _
theorem finalA_1 (c : Dev nD) : finalA m ρ c (1 : Fin 6) = m ((c : Thread nD τ).loc main_arg1) := (dats (F := F) m ρ 0 c).arrAt_in (1 : Fin 6) rfl _
theorem finalA_2 (c : Dev nD) : finalA m ρ c (2 : Fin 6) = m ((c : Thread nD τ).loc main_arg2) := (dats (F := F) m ρ 0 c).arrAt_in (2 : Fin 6) rfl _
theorem finalA_3 (c : Dev nD) : finalA m ρ c (3 : Fin 6) = m ((c : Thread nD τ).loc main_arg3) := (dats (F := F) m ρ 0 c).arrAt_in (3 : Fin 6) rfl _
theorem finalA_4 (c : Dev nD) : finalA m ρ c (4 : Fin 6) = m ((c : Thread nD τ).loc main_arg4) := (dats (F := F) m ρ 0 c).arrAt_in (4 : Fin 6) rfl _

/-- What the run says, buffer by buffer. -/
theorem run_args : θ_run defs (onTc (τ := τ) (main (F := F))) (s₀ m ρ) (fun r => (∀ c : Dev nD,
      r.2.mem ((c : Thread nD τ).loc main_v1) = finalA m ρ c (5 : Fin 6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨h.1 c (5 : Fin 6), (h.1 c (0 : Fin 6)).trans (finalA_0 m ρ c), (h.1 c (1 : Fin 6)).trans (finalA_1 m ρ c),
    (h.1 c (2 : Fin 6)).trans (finalA_2 m ρ c), (h.1 c (3 : Fin 6)).trans (finalA_3 m ρ c), (h.1 c (4 : Fin 6)).trans (finalA_4 m ρ c)⟩, h.2⟩) (run_main m ρ)

end Cert.Moe

end
-- ==== Proof.Frames.lean ====
/-
# The frames

The run is for any floats, so one run gives the frame of the kernel as printed and of the idealized one; the
reference's is its operations' run.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Moe

open Idealize.ShloMosaic Idealize.SL.Sem

open Cert.KernelIdeal in
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_args m ρ)

theorem frame_kernelIdeal : Cert.quiescent_KernelIdeal := fun m ρ _ => frame_any (F := Ideal) m ρ

/-! The kernel as printed and the idealized one have the same text. -/

set_option maxRecDepth 100000 in
theorem defs₀_eq : Cert.Kernel.defs₀ (F := Bits) = Cert.KernelIdeal.defs₀ (F := Bits) :=
  congrArg Defs.onTc (funext fun l => funext fun a => match l, a with
    | 0, (t, s) => rfl
    | ⟨_ + 1, h⟩, _ => absurd h (Nat.not_lt.2 (Nat.le_add_left _ _)))

theorem defs_eq : Cert.Kernel.defs (F := Bits) = Cert.KernelIdeal.defs (F := Bits) := congrArg (Pipeline.defs Cert.Kernel.pcfgs) defs₀_eq

theorem frame_kernel : Cert.quiescent_Kernel := fun m ρ _ =>
  Eq.mp (congrArg (fun d => θ_run d (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)) defs_eq.symm) (frame_any (F := Bits) m ρ)

/-- The reference has no semaphore. -/
theorem no_sem (g : GSem Cert.ReferenceIdeal.nD Cert.ReferenceIdeal.τ Cert.ReferenceIdeal.sig) : False := by
  rcases g with ⟨t, sm⟩
  rcases sm with q | q
  · exact q.elim0
  · exact q.elim0

theorem frame_referenceIdeal : Cert.quiescent_ReferenceIdeal := fun m ρ _ =>
  (θ_run Cert.ReferenceIdeal.defs _ _).mono (fun _ h => ⟨fun c => (h c).2, funext fun g => (no_sem g).elim⟩)
    (Cert.ReferenceIdeal.Value.run (F := Ideal) m ρ)

end Cert.Moe

end
-- ==== Proof.Select.lean ====
/-
# Which token stands in which row

A group of eight experts marks its tokens among the 128 of a chunk; `rank` numbers them from one. The arrays that
pack the marked tokens into 32 rows and that put the rows back are zeros and ones: one at (row i, token t) where `t`
is marked and is the `i + 1`-st.
-/
module

public import proofs.«01_k».proof.Proof.Prog
public import Idealize.ShloMosaic.Lib.Pointwise
public import Idealize.ShloMosaic.Lib.Routing.BitFacts

@[expose] public section

set_option maxRecDepth 16384

noncomputable section

namespace Cert.Moe

open Cert.KernelIdeal Cert.KernelIdeal.Gen
open Idealize.ShloMosaic
open Idealize.ShloMosaic.TcCoe
open scoped BigOperators

/-- Zero or one. -/
abbrev ind (p : Prop) [Decidable p] : EReal := if p then 1 else 0

/-- Token `t` goes to group `g`; how many that do come no later than `t`. -/
abbrev marked (r : Fin 128 → ℕ) (g : ℕ) (t : Fin 128) : Prop := r t / 8 = g
def rank (r : Fin 128 → ℕ) (g : ℕ) (t : Fin 128) : ℕ := (Finset.univ.filter fun s : Fin 128 => s ≤ t ∧ marked r g s).card

/-- A route array that holds the numbers `r`. -/
abbrev Holds (rt : IVec S128x1 32) (r : Fin 128 → ℕ) : Prop := ∀ t, rt (ix2 t 0) = BitVec.ofNat 32 (r t) ∧ r t < 128

/-! ## Bits and words as numbers -/

theorem bit_cast (b : BitVec 1) : (FloatOps.sitofp (F := Ideal) FTy.f32 (BitVec.setWidth 32 b) : EReal) = ind (b = 1#1) := by
  show (((BitVec.setWidth 32 b).toInt : ℝ) : EReal) = _
  rcases (by decide : ∀ b : BitVec 1, b = 0#1 ∨ b = 1#1) b with rfl | rfl
  · simp [ind]
  · have : (BitVec.setWidth 32 (1#1 : BitVec 1)).toInt = 1 := by decide
    rw [this]; simp [ind]

theorem ofBool_one (b : Bool) : BitVec.ofBool b = 1#1 ↔ b = true := by cases b <;> decide
theorem andi_one (a b : BitVec 1) : IntOp.andi a b = 1#1 ↔ a = 1#1 ∧ b = 1#1 := by revert a b; decide

theorem sle_one {a b : ℕ} (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ _
  rw [Routing.sle_ofNat32 ha hb, ofBool_one, decide_eq_true_eq]
theorem sge_one {a b : ℕ} (ha : a < 2 ^ 31) (hb : b < 2 ^ 31) :
    IntOp.cmpi .sge (BitVec.ofNat 32 a) (BitVec.ofNat 32 b) = 1#1 ↔ b ≤ a := by
  show BitVec.ofBool ((BitVec.ofNat 32 b).sle (BitVec.ofNat 32 a)) = 1#1 ↔ _
  rw [Routing.sle_ofNat32 hb ha, ofBool_one, decide_eq_true_eq]
theorem slt_one {a b : ℕ} (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ _
  rw [Routing.slt_ofNat32 ha hb, ofBool_one, decide_eq_true_eq]
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl
theorem eq_one (x y : BitVec 32) : IntOp.cmpi .eq x y = 1#1 ↔ x = y := by
  show BitVec.ofBool (x == y) = 1#1 ↔ _
  rw [ofBool_one, beq_iff_eq]

theorem fptosi_nat {n : ℕ} (hn : n < 2 ^ 31) : (FloatOps.fptosi (F := Ideal) (φ := .f32) 32 ((n : ℕ) : EReal) : BitVec 32) = BitVec.ofNat 32 n := by
  show Ideal.fptosi 32 ((n : ℕ) : EReal) = _
  rw [show ((n : ℕ) : EReal) = ((n : ℝ) : EReal) from rfl, Ideal.fptosi, Ideal.toIntClamped_coe]
  rw [if_pos (Nat.cast_nonneg n), Int.floor_natCast]
  have h : max (-((2 ^ (32 - 1) : ℕ) : ℤ)) (min (((2 ^ (32 - 1) : ℕ) : ℤ) - 1) (n : ℤ)) = (n : ℤ) := by norm_num at hn ⊢; omega
  rw [h, BitVec.ofInt_natCast]

theorem half_lt (p : Prop) [Decidable p] : (Ideal.ofBits .f32 1056964608#32 < ind p) ↔ p := by
  have h : Ideal.ofBits .f32 1056964608#32 = ((1 / 2 : ℝ) : EReal) := by
    simp [Ideal.ofBits, Ideal.ieee, -EReal.coe_mul]; norm_num
  rw [h]
  by_cases hp : p
  · simp only [ind, hp, if_true, iff_true]
    exact_mod_cast (by norm_num : (1 / 2 : ℝ) < 1)
  · simp only [ind, hp, if_false, iff_false, not_lt]
    exact_mod_cast (by norm_num : (0 : ℝ) ≤ 1 / 2)

/-- The word of row `i` is that of the number before `n` exactly where `n` is `i + 1`. -/
theorem word_pred (i n : ℕ) (hi : i < 32) (hn : n ≤ 128) :
    BitVec.ofNat 32 i = IntOp.subi (BitVec.ofNat 32 n) 1#32 ↔ n = i + 1 := by
  show BitVec.ofNat 32 i = BitVec.ofNat 32 n - 1#32 ↔ _
  rw [eq_comm, sub_eq_iff_eq_add, show BitVec.ofNat 32 i + 1#32 = BitVec.ofNat 32 (i + 1) from (BitVec.ofNat_add ..).symm,
    word_inj (by omega) (by omega)]

/-! ## The marks and the ranks -/

variable (r : Fin 128 → ℕ) (g : ℕ)

theorem rank_le (t : Fin 128) : rank r g t ≤ 128 :=
  (Finset.card_le_univ _).trans (by simp)

/-- Two marked tokens of one rank are the same. -/
theorem rank_inj {s t : Fin 128} (hs : marked r g s) (ht : marked r g t) (h : rank r g s = rank r g t) : s = t := by
  have key : ∀ {a b : Fin 128}, marked r g b → a < b → rank r g a < rank r g b := fun {a b} hb hab =>
    Finset.card_lt_card ⟨fun x hx => by
      simp only [Finset.mem_filter, Finset.mem_univ, true_and] at hx ⊢
      exact ⟨hx.1.trans hab.le, hx.2⟩, fun hsub => by
      have := hsub (show b ∈ _ from Finset.mem_filter.mpr ⟨Finset.mem_univ _, le_refl b, hb⟩)
      exact absurd (Finset.mem_filter.mp this).2.1 (not_le.mpr hab)⟩
  rcases lt_trichotomy s t with h' | h' | h'
  · exact absurd h (key ht h').ne
  · exact h'
  · exact absurd h (key hs h').ne'

theorem rank_pos {t : Fin 128} (ht : marked r g t) : 0 < rank r g t :=
  Finset.card_pos.mpr ⟨t, Finset.mem_filter.mpr ⟨Finset.mem_univ _, le_refl t, ht⟩⟩

theorem rank_le_count (t : Fin 128) : rank r g t ≤ (Finset.univ.filter fun s : Fin 128 => marked r g s).card :=
  Finset.card_le_card fun x hx => Finset.mem_filter.mpr ⟨Finset.mem_univ _, (Finset.mem_filter.mp hx).2.2⟩

/-! ## The arrays -/

variable {r g}

theorem member_apply {rt : IVec S128x1 32} (h : Holds rt r) (hg : g < 16) (t : Fin 128) :
    member (F := Ideal) (BitVec.ofNat 32 (8 * g)) rt (ix2 t 0) = ind (marked r g t) := by
  pointwise [member]
  have hr := (h t).2
  rw [(h t).1, bit_cast, show Scalar.addi (BitVec.ofNat 32 (8 * g)) 8#32 = BitVec.ofNat 32 (8 * g + 8) from (BitVec.ofNat_add ..).symm]
  refine if_congr ?_ rfl rfl
  rw [andi_one, sge_one (by omega) (by omega), slt_one (by omega) (by omega)]
  unfold marked
  omega

theorem upTo_apply (v : FVec Ideal S128x1 .f32) (t : Fin 128) : upTo v (ix2 t 0) = ∑ s : Fin 128, ind (s ≤ t) * v (ix2 s 0) := by
  pointwise [upTo, k0_pay7]
  refine Finset.sum_congr rfl fun s _ => ?_
  rw [bit_cast]
  congr 1
  refine if_congr ?_ rfl rfl
  rw [sle_one (by omega) (by omega), Fin.le_def]

theorem asRow_apply (v : FVec Ideal S128x1 .f32) (i : Fin 32) (t : Fin 128) : asRow v (ix2 i t) = v (ix2 t 0) := by
  pointwise [asRow, k0_pay8, k0_pay9]
  rw [Finset.sum_eq_single t]
  · rw [bit_cast, ind, if_pos ((eq_one _ _).mpr rfl), one_mul]
  · intro s _ hs
    rw [bit_cast, ind, if_neg, zero_mul]
    rw [eq_one, word_inj (by omega) (by omega)]
    exact fun h => hs (Fin.ext h.symm)
  · exact fun h => absurd (Finset.mem_univ t) h

theorem upTo_member {rt : IVec S128x1 32} (h : Holds rt r) (hg : g < 16) (t : Fin 128) :
    upTo (member (F := Ideal) (BitVec.ofNat 32 (8 * g)) rt) (ix2 t 0) = ((rank r g t : ℕ) : EReal) := by
  rw [upTo_apply, rank, ← Finset.sum_boole]
  refine Finset.sum_congr rfl fun s _ => ?_
  rw [member_apply h hg]
  by_cases h1 : s ≤ t <;> by_cases h2 : marked r g s <;> simp [ind, h1, h2]

theorem gather_apply {rt : IVec S128x1 32} (h : Holds rt r) (hg : g < 16) (i : Fin 32) (t : Fin 128) :
    gather (member (F := Ideal) (BitVec.ofNat 32 (8 * g)) rt) (ix2 i t) = ind (marked r g t ∧ rank r g t = i + 1) := by
  have hr := rank_le r g t
  pointwise [gather]
  rw [asRow_apply, asRow_apply, upTo_member h hg, member_apply h hg, bit_cast, fptosi_nat (by omega)]
  refine if_congr ?_ rfl rfl
  rw [andi_one, eq_one, word_pred _ _ i.isLt hr, ofBool_one, decide_eq_true_eq, half_lt, and_comm]

theorem spread_apply {rt : IVec S128x1 32} (h : Holds rt r) (hg : g < 16) (i : Fin 32) (t : Fin 128) :
    spread (member (F := Ideal) (BitVec.ofNat 32 (8 * g)) rt) (ix2 t i) = ind (marked r g t ∧ rank r g t = i + 1) := by
  have hr := rank_le r g t
  pointwise [spread]
  rw [upTo_member h hg, member_apply h hg, bit_cast, fptosi_nat (by omega)]
  refine if_congr ?_ rfl rfl
  rw [andi_one, eq_one, word_pred _ _ i.isLt hr, ofBool_one, decide_eq_true_eq, half_lt, and_comm]

end Cert.Moe

end
-- ==== Proof.Chunk.lean ====
/-
# A chunk packed, multiplied and put back

A row of a packed chunk is one token scaled by its gates at the eight experts, side by side; its product with the
stacked weights is the gate times the token's product with its own expert's weights; and the rows put back stand at
their tokens.
-/
module

public import proofs.«01_k».proof.Proof.Select
public import proofs.«01_k».proof.Proof.Vals

@[expose] public section

set_option maxRecDepth 16384

noncomputable section

namespace Cert.Moe

open Cert.KernelIdeal Cert.KernelIdeal.Gen
open Idealize.ShloMosaic
open Idealize.ShloMosaic.TcCoe
open scoped BigOperators

variable {r : Fin 128 → ℕ} {g : ℕ}

/-- A finite factor that is not negative distributes over a sum of extended reals. -/
theorem mul_sum_fin {ι : Type} (p : EReal) (h0 : 0 ≤ p) (h1 : p ≠ ⊤) (S : Finset ι) (f : ι → EReal) :
    p * ∑ i ∈ S, f i = ∑ i ∈ S, p * f i := by
  classical
  induction S using Finset.induction_on with
  | empty => simp
  | insert a S ha ih => rw [Finset.sum_insert ha, Finset.sum_insert ha, EReal.left_distrib_of_nonneg_of_ne_top h0 h1, ih]

/-- A sum over the 4096 columns is a sum over eight stretches of 512. -/
theorem sum_stretches (f : Fin 4096 → EReal) : ∑ q, f q = ∑ j : Fin 8, ∑ k : Fin 512, f ⟨512 * j.val + k.val, by omega⟩ := by
  rw [← Fintype.sum_prod_type']
  refine (Fintype.sum_equiv (finProdFinEquiv (m := 8) (n := 512)) _ f fun x => congrArg f (Fin.ext ?_)).symm
  show 512 * x.1.val + x.2.val = x.2.val + 512 * x.1.val
  omega

theorem scaled_apply (hg : g < 16) (j : ℕ) (hj : j < 8) (xs : Vec Ideal S128x512 .bf16) (G : Vec Ideal S128x128 .f32) (t : Fin 128) (k : Fin 512) :
    scaled (BitVec.ofNat 32 (8 * g)) (BitVec.ofNat 32 j) xs G (ix2 t k) = (xs (ix2 t k) : EReal) * G (ix2 t ⟨8 * g + j, by omega⟩) := by
  pointwise [scaled]
  congr 1
  rw [show Scalar.addi (BitVec.ofNat 32 (8 * g)) (BitVec.ofNat 32 j) = BitVec.ofNat 32 (8 * g + j) from (BitVec.ofNat_add ..).symm,
    Finset.sum_eq_single (⟨8 * g + j, by omega⟩ : Fin 128)]
  · exact if_pos ((eq_one _ _).mpr rfl)
  · intro s _ hs
    refine if_neg fun h => hs (Fin.ext ?_)
    exact (word_inj (by omega) (by omega)).mp ((eq_one _ _).mp h)
  · exact fun h => absurd (Finset.mem_univ _) h

theorem sideBySide_apply (hg : g < 16) (xs : Vec Ideal S128x512 .bf16) (G : Vec Ideal S128x128 .f32) (t : Fin 128) (j : Fin 8) (k : Fin 512) :
    sideBySide (BitVec.ofNat 32 (8 * g)) xs G (ix2 t ⟨512 * j.val + k.val, by omega⟩)
      = (xs (ix2 t k) : EReal) * G (ix2 t ⟨8 * g + j, by omega⟩) := by
  rw [← scaled_apply hg j.val j.isLt]
  have hk := k.isLt
  pointwise [sideBySide]
  fin_vals j with hj
  all_goals
    simp only [hj]
    repeat rw [dif_neg (by omega)]
    try rw [dif_pos (by omega)]
    refine congrArg _ (congrArg (ix2 t) (Fin.ext ?_))
    show _ = k.val
    simp only []
    omega

theorem packed_apply {rt : IVec S128x1 32} (h : Holds rt r) (hg : g < 16) (xs : Vec Ideal S128x512 .bf16) (G : Vec Ideal S128x128 .f32)
    (i : Fin 32) (q : Fin 4096) :
    packed (BitVec.ofNat 32 (8 * g)) xs G rt (ix2 i q)
      = ∑ t : Fin 128, ind (marked r g t ∧ rank r g t = i + 1) * sideBySide (BitVec.ofNat 32 (8 * g)) xs G (ix2 t q) := by
  pointwise [packed]
  exact Finset.sum_congr rfl fun t _ => by rw [gather_apply h hg]

theorem product_apply (y : Vec Ideal S128x4096 .bf16) (w : Vec Ideal S4096x1024 .bf16) (i : Fin 128) (h : Fin 1024) :
    product y w (ix2 i h) = ∑ q : Fin 4096, (y (ix2 i q) : EReal) * w (ix2 q h) := by
  pointwise [product, k0_pay44]

theorem scattered_apply {rt : IVec S128x1 32} (h : Holds rt r) (hg : g < 16) (acc : FVec Ideal S128x1024 .f32) (v : FVec Ideal S32x1024 .bf16)
    (t : Fin 128) (l : Fin 1024) :
    scattered (BitVec.ofNat 32 (8 * g)) rt acc v (ix2 t l)
      = acc (ix2 t l) + ∑ i : Fin 32, ind (marked r g t ∧ rank r g t = i + 1) * v (ix2 i l) := by
  pointwise [scattered]
  exact congrArg _ (Finset.sum_congr rfl fun i _ => by rw [spread_apply h hg])

theorem eb_apply (e : Vec Ideal S8x512x1024 .bf16) (j : Fin 8) (k : Fin 512) (l : Fin 1024) :
    k0_pay2 e (ix2 ⟨512 * j.val + k.val, by omega⟩ l) = e (ix3 j k l) := by
  pointwise [k0_pay2]

/-! ## One token through a group -/

/-- The row of a marked token's rank is the token's. -/
theorem packed_row {rt : IVec S128x1 32} (h : Holds rt r) (hg : g < 16) (xs : Vec Ideal S128x512 .bf16) (G : Vec Ideal S128x128 .f32)
    {t : Fin 128} (ht : marked r g t) {i : Fin 32} (hi : rank r g t = i + 1) (q : Fin 4096) :
    packed (BitVec.ofNat 32 (8 * g)) xs G rt (ix2 i q) = sideBySide (BitVec.ofNat 32 (8 * g)) xs G (ix2 t q) := by
  rw [packed_apply h hg, Finset.sum_eq_single t]
  · rw [ind, if_pos ⟨ht, hi⟩, one_mul]
  · intro s _ hs
    rw [ind, if_neg, zero_mul]
    exact fun hc => hs (rank_inj r g hc.1 ht (hc.2.trans hi.symm))
  · exact fun hc => absurd (Finset.mem_univ t) hc

/-- Its product with the stacked weights, where the gates vanish off the token's own expert. -/
theorem row_product (hg : g < 16) (xs : Vec Ideal S128x512 .bf16) (G : Vec Ideal S128x128 .f32) (e : Vec Ideal S8x512x1024 .bf16)
    (p : EReal) (h0 : 0 ≤ p) (h1 : p ≠ ⊤) {t : Fin 128} (ht : marked r g t)
    (hG : ∀ n : Fin 128, G (ix2 t n) = if n.val = r t then p else 0) (l : Fin 1024) :
    ∑ q : Fin 4096, (sideBySide (BitVec.ofNat 32 (8 * g)) xs G (ix2 t q) : EReal) * k0_pay2 e (ix2 q l)
      = p * ∑ k : Fin 512, (xs (ix2 t k) : EReal) * e (ix3 ⟨r t % 8, Nat.mod_lt _ (by decide)⟩ k l) := by
  have hm : r t / 8 = g := ht
  rw [sum_stretches, Finset.sum_eq_single (⟨r t % 8, Nat.mod_lt _ (by decide)⟩ : Fin 8), mul_sum_fin p h0 h1]
  · refine Finset.sum_congr rfl fun k _ => ?_
    rw [sideBySide_apply hg, eb_apply, hG, if_pos (by show 8 * g + r t % 8 = r t; omega), mul_comm (xs (ix2 t k) : EReal) p, mul_assoc]
  · intro j _ hj
    refine Finset.sum_eq_zero fun k _ => ?_
    rw [sideBySide_apply hg, hG, if_neg, mul_zero, zero_mul]
    intro hc
    refine hj (Fin.ext ?_)
    have : 8 * g + j.val = r t := hc
    show j.val = r t % 8
    omega
  · exact fun hc => absurd (Finset.mem_univ _) hc

/-- What a group's rows add to a token of the chunk: for a token of the group its gate times its product, else nothing. -/
theorem back_apply {rt : IVec S128x1 32} (h : Holds rt r) (hg : g < 16)
    (hc : (Finset.univ.filter fun s : Fin 128 => marked r g s).card ≤ 32)
    (xs : Vec Ideal S128x512 .bf16) (G : Vec Ideal S128x128 .f32) (e : Vec Ideal S8x512x1024 .bf16) (p : Fin 128 → EReal)
    (h0 : ∀ t, 0 ≤ p t) (h1 : ∀ t, p t ≠ ⊤) (hG : ∀ t n : Fin 128, G (ix2 t n) = if n.val = r t then p t else 0)
    (v : FVec Ideal S32x1024 .bf16)
    (hv : ∀ i l, v (ix2 i l) = ∑ q : Fin 4096, (packed (BitVec.ofNat 32 (8 * g)) xs G rt (ix2 i q) : EReal) * k0_pay2 e (ix2 q l))
    (acc : FVec Ideal S128x1024 .f32) (t : Fin 128) (l : Fin 1024) :
    scattered (BitVec.ofNat 32 (8 * g)) rt acc v (ix2 t l)
      = acc (ix2 t l) + if marked r g t then
          p t * ∑ k : Fin 512, (xs (ix2 t k) : EReal) * e (ix3 ⟨r t % 8, Nat.mod_lt _ (by decide)⟩ k l) else 0 := by
  rw [scattered_apply h hg]
  congr 1
  by_cases ht : marked r g t
  · have hp := rank_pos r g ht
    have hl := (rank_le_count r g t).trans hc
    have hi : rank r g t = (⟨rank r g t - 1, by omega⟩ : Fin 32).val + 1 := by show _ = _ - 1 + 1; omega
    rw [if_pos ht, Finset.sum_eq_single (⟨rank r g t - 1, by omega⟩ : Fin 32)]
    · rw [ind, if_pos ⟨ht, hi⟩, one_mul, hv, ← row_product hg xs G e (p t) (h0 t) (h1 t) ht (hG t)]
      exact Finset.sum_congr rfl fun q _ => by rw [packed_row h hg xs G ht hi]
    · intro i _ hne
      rw [ind, if_neg, zero_mul]
      exact fun hcc => hne (Fin.ext (by have := hcc.2; show i.val = rank r g t - 1; omega))
    · exact fun hcc => absurd (Finset.mem_univ _) hcc
  · rw [if_neg ht]
    exact Finset.sum_eq_zero fun i _ => by rw [ind, if_neg (fun hcc => ht hcc.1), zero_mul]

end Cert.Moe

end
-- ==== Proof.Gate.lean ====
/-
# The gates

The softmax of a token's scores is a finite number that is not negative where the tokens and the router's weights are
finite; the kernel keeps it at the token's own expert and zero elsewhere.
-/
module

public import proofs.«01_k».proof.Proof.Select
public import Mathlib.Data.Finset.Fold

@[expose] public section

set_option maxRecDepth 16384

noncomputable section

namespace Cert.Moe

open Cert.KernelIdeal Cert.KernelIdeal.Gen
open Idealize.ShloMosaic
open Idealize.ShloMosaic.TcCoe
open scoped BigOperators

variable (x : Vec Ideal S2048x512 .bf16) (rw : Vec Ideal S512x128 .bf16)

def score (n : Fin 2048) (e : Fin 128) : EReal := ∑ k : Fin 512, (x (ix2 n k) : EReal) * rw (ix2 k e)
def peak (n : Fin 2048) : EReal := Finset.univ.fold max ⊥ fun e => score x rw n e
def prob (n : Fin 2048) (e : Fin 128) : EReal :=
  Ideal.div (Ideal.exp (score x rw n e - peak x rw n)) (∑ e', Ideal.exp (score x rw n e' - peak x rw n))

theorem ofBits_bot : Ideal.ofBits .f32 4286578688#32 = ⊥ := by
  simp [Ideal.ofBits, Ideal.ieee]

theorem gateOf_apply (ix : Vec Ideal S2048x1 .i32) (n : Fin 2048) (r : ℕ) (h : ix (ix2 n 0) = BitVec.ofNat 32 r) (hr : r < 128)
    (e : Fin 128) : gateOf x rw ix (ix2 n e) = if e.val = r then prob x rw n e else 0 := by
  pointwise [gateOf, k0_pay6, k0_pay5, k0_pay4]
  rw [h, ofBits_bot]
  refine if_congr ?_ rfl rfl
  exact (eq_one _ _).trans (word_inj (by omega) (by omega))

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite extended real. -/
abbrev Fin' (a : EReal) : Prop := a ≠ ⊥ ∧ a ≠ ⊤

variable {x rw} (hx : ∀ n k, Fin' (x (ix2 n k))) (hrw : ∀ k e, Fin' (rw (ix2 k e)))

include hx hrw in
theorem score_real (n : Fin 2048) (e : Fin 128) : ∃ a : ℝ, score x rw n e = a := by
  refine ⟨∑ k : Fin 512, (x (ix2 n k) : EReal).toReal * (rw (ix2 k e) : EReal).toReal, ?_⟩
  rw [score, coe_sum]
  refine Finset.sum_congr rfl fun k _ => ?_
  rw [EReal.coe_mul, EReal.coe_toReal (hx n k).2 (hx n k).1, EReal.coe_toReal (hrw k e).2 (hrw k e).1]

include hx hrw in
theorem peak_real (n : Fin 2048) : ∃ a : ℝ, peak x rw n = a := by
  have h1 : peak x rw n < ⊤ := (Finset.fold_max_lt _).mpr ⟨bot_lt_top, fun e _ => by
    obtain ⟨a, ha⟩ := score_real hx hrw n e; rw [ha]; exact EReal.coe_lt_top a⟩
  have h0 : ⊥ < peak x rw n := (Finset.lt_fold_max _).mpr (.inr ⟨0, Finset.mem_univ _, by
    obtain ⟨a, ha⟩ := score_real hx hrw n 0; rw [ha]; exact EReal.bot_lt_coe a⟩)
  exact ⟨_, (EReal.coe_toReal h1.ne h0.ne').symm⟩

include hx hrw in
theorem exp_real (n : Fin 2048) (e : Fin 128) : ∃ a : ℝ, 0 < a ∧ Ideal.exp (score x rw n e - peak x rw n) = a := by
  obtain ⟨s, hs⟩ := score_real hx hrw n e
  obtain ⟨p, hp⟩ := peak_real hx hrw n
  exact ⟨Real.exp (s - p), Real.exp_pos _, by rw [hs, hp, ← EReal.coe_sub]; rfl⟩

include hx hrw in
/-- The softmax at an expert is a real number that is not negative. -/
theorem prob_real (n : Fin 2048) (e : Fin 128) : ∃ a : ℝ, 0 ≤ a ∧ prob x rw n e = a := by
  choose f hf0 hf using exp_real hx hrw n
  have hpos : 0 < ∑ e', f e' := Finset.sum_pos (fun e' _ => hf0 e') ⟨0, Finset.mem_univ _⟩
  refine ⟨f e * (1 / ∑ e', f e'), mul_nonneg (hf0 e).le (one_div_pos.mpr hpos).le, ?_⟩
  rw [prob, Finset.sum_congr rfl fun e' _ => hf e', ← coe_sum, Ideal.div_coe hpos.ne', hf, EReal.coe_mul]

include hx hrw in
theorem prob_nonneg (n : Fin 2048) (e : Fin 128) : 0 ≤ prob x rw n e := by
  obtain ⟨a, ha, h⟩ := prob_real hx hrw n e; rw [h]; exact_mod_cast ha
include hx hrw in
theorem prob_ne_top (n : Fin 2048) (e : Fin 128) : prob x rw n e ≠ ⊤ := by
  obtain ⟨a, ha, h⟩ := prob_real hx hrw n e; rw [h]; exact EReal.coe_ne_top a

end Cert.Moe

end
-- ==== Proof.Device.lean ====
/-
# A device's rows

With every device given the same tokens, router and routes, what device `c` accumulates for token `t` of its chunk is the
shared expert's product plus the gate times the product with the token's own expert, whichever device holds it.
-/
module

public import proofs.«01_k».proof.Proof.Chunk
public import proofs.«01_k».proof.Proof.Gate

@[expose] public section

set_option maxRecDepth 16384

noncomputable section

namespace Cert.Moe

open Cert.KernelIdeal Cert.KernelIdeal.Gen
open Idealize.ShloMosaic
open Idealize.ShloMosaic.TcCoe
open scoped BigOperators

/-! ## Words and offsets -/

theorem loWord_eq (d : Dev nD) : loWord d = BitVec.ofNat 32 (8 * d.val) := by revert d; decide +kernel
theorem loFrom_eq (d : Dev nD) (k : Fin 15) : loFrom d k = BitVec.ofNat 32 (8 * (nb d k).val) := by revert d k; decide +kernel

/-- The chunk device `d` packs as its `s`-th. -/
def dest (d : Dev nD) (s : Fin 16) : Fin 16 := ⟨(d.val + 1 + s.val) % 16, Nat.mod_lt _ (by decide)⟩

theorem off1_eq (d : Dev nD) (s : Fin 16) : k0_off1 d (BitVec.ofNat 32 s.val) = ![(dest d s).val * 128, 0] := by revert d s; decide +kernel
theorem off2_eq (d : Dev nD) (s : Fin 16) : k0_off2 d (BitVec.ofNat 32 s.val) = ![(dest d s).val * 128, 0] := by revert d s; decide +kernel
theorem off3_eq (d : Dev nD) (s : Fin 16) : k0_off3 d (BitVec.ofNat 32 s.val) = ![(dest d s).val * 128, 0] := by revert d s; decide +kernel
theorem off4_eq (d : Dev nD) : k0_off4 d = ![d.val * 128, 0] := by revert d; decide +kernel
theorem off5_eq (d : Dev nD) : k0_off5 d = ![d.val * 128, 0] := by revert d; decide +kernel

/-- Row `t` of chunk `c`. -/
abbrev row (c : Fin 16) (t : Fin 128) : Fin 2048 := ⟨c.val * 128 + t.val, by omega⟩

/-- Chunk `c` of an array. -/
def slab {α : Type} {n : ℕ} (c : Fin 16) (y : (⟨2, ![2048, n]⟩ : Shape).Idx → α) : (⟨2, ![128, n]⟩ : Shape).Idx → α :=
  fun j => y (ix2 (row c ⟨(j 0).val, (j 0).isLt⟩) (j 1))

/-- The rectangle of 128 rows from row `128 c` is chunk `c`. -/
theorem rect_chunk {n : ℕ} (c : Fin 16) (o : Fin 2 → ℕ) (ho : o = ![c.val * 128, 0])
    (hb : ∀ a, o a + (⟨2, ![128, n]⟩ : Shape).size a ≤ (⟨2, ![2048, n]⟩ : Shape).size a) (j : (⟨2, ![128, n]⟩ : Shape).Idx) :
    (Rect.unit (s := ⟨2, ![2048, n]⟩) o (⟨2, ![128, n]⟩ : Shape).size hb).emb j = ix2 (row c ⟨(j 0).val, (j 0).isLt⟩) (j 1) := by
  subst ho
  funext a
  refine Fin.ext ((ValueKit.rect_emb_unit_val _ _ _ j a).trans ?_)
  match a with
  | ⟨0, _⟩ => rfl
  | ⟨1, _⟩ => exact Nat.zero_add _

theorem pay1_eq (x : Vec Ideal S2048x512 .bf16) : k0_pay1 x = x := by
  funext i
  rw [eq_ix2 i]
  pointwise [k0_pay1]
theorem pay3_eq (x : Vec Ideal S512x1024 .bf16) : k0_pay3 x = x := by
  funext i
  rw [eq_ix2 i]
  pointwise [k0_pay3]

/-- What device `d` packs as its `s`-th chunk, from that chunk of its operands. -/
theorem pk_eq (A : Inputs Ideal) (d : Dev nD) (s : Fin 16) :
    A.pk d s = packed (BitVec.ofNat 32 (8 * d.val)) (slab (dest d s) A.x) (slab (dest d s) (gateOf A.x A.rw A.ix)) (slab (dest d s) A.ix) := by
  unfold Inputs.pk Inputs.gt Inputs.xb
  rw [loWord_eq, pay1_eq]
  congr 1 <;> funext j
  · exact congrArg A.x (rect_chunk _ _ (off1_eq d s) _ j)
  · exact congrArg (gateOf A.x A.rw A.ix) (rect_chunk _ _ (off2_eq d s) _ j)
  · exact congrArg A.ix (rect_chunk _ _ (off3_eq d s) _ j)

theorem rt_eq (A : Inputs Ideal) (d : Dev nD) : A.rt d = slab d A.ix := by
  funext j
  exact congrArg A.ix (rect_chunk d _ (off4_eq d) _ j)

theorem acc0_apply (A : Inputs Ideal) (d : Dev nD) (t : Fin 128) (l : Fin 1024) :
    A.acc0 d (ix2 t l) = ∑ k : Fin 512, (A.x (ix2 (row d t) k) : EReal) * A.sw (ix2 k l) := by
  have : A.acc0 d = k0_pay175 (slab d A.x) A.sw := by
    unfold Inputs.acc0 Inputs.xb Inputs.sb
    rw [pay1_eq, pay3_eq]
    congr 1
    funext j
    exact congrArg A.x (rect_chunk d _ (off5_eq d) _ j)
  rw [this]
  pointwise [k0_pay175]
  rfl

theorem index_eq {n m : ℕ} (a : Fin n) (b : Fin m) : ValueIdx.ix2 a b = ix2 a b := eq_ix2 _

theorem yg_row (A : Inputs Ideal) (d : Dev nD) (s : Fin 16) (i : Fin 32) (q : Fin 4096) (n : Fin 512) (hn : n.val = 32 * s.val + i.val) :
    A.yg d (ix2 n q) = A.pk d s (ix2 i q) := by
  rw [← yg_emb]
  congr 1
  funext a
  refine Fin.ext ?_
  rw [yg_val]
  match a with
  | ⟨0, _⟩ => exact hn
  | ⟨1, _⟩ => exact (Nat.zero_add _).symm

theorem yb_row (A : Inputs Ideal) (d : Dev nD) (n : Fin 512) (l : Fin 1024) :
    A.yb d (ix2 n l) = ∑ q : Fin 4096, (A.yg d (ix2 n q) : EReal) * k0_pay2 A.e (ix2 q l) := by
  have hb : A.yb d (ix2 n l) = A.gp d ⟨n.val / 128, by omega⟩ (ix2 ⟨n.val % 128, by omega⟩ l) :=
    congrArg (A.gp d _) (index_eq _ _)
  rw [hb]
  unfold Inputs.gp Inputs.eb
  rw [product_apply]
  refine Finset.sum_congr rfl fun q _ => congrArg (· * (k0_pay2 A.e (ix2 q l) : EReal)) (congrArg (A.yg d) ?_)
  funext a
  refine Fin.ext ((ygG_val _ _ a).trans ?_)
  match a with
  | ⟨0, _⟩ => show 128 * (n.val / 128) + n.val % 128 = n.val; omega
  | ⟨1, _⟩ => exact Nat.zero_add _

/-- A row of the products. -/
theorem rows_apply (Y : Dev nD → Vec Ideal S512x1024 .bf16) (A : Inputs Ideal) (d : Dev nD) (hY : Y d = A.yb d) (s : Fin 16)
    (i : Fin 32) (l : Fin 1024) :
    rowsOf Y d s (ix2 i l) = ∑ q : Fin 4096, (A.pk d s (ix2 i q) : EReal) * k0_pay2 A.e (ix2 q l) := by
  have hi : (ybR s).emb (ix2 i l) = ix2 (⟨32 * s.val + i.val, by omega⟩ : Fin 512) l := by
    funext a
    refine Fin.ext ((yb_val s (ix2 i l) a).trans ?_)
    match a with
    | ⟨0, _⟩ => rfl
    | ⟨1, _⟩ => exact Nat.zero_add _
  have hr : rowsOf Y d s (ix2 i l) = A.yb d ((ybR s).emb (ix2 i l)) := congrFun hY _
  rw [hr, hi, yb_row]
  exact Finset.sum_congr rfl fun q _ => by rw [yg_row A d s i q _ rfl]

/-! ## The sum over the devices -/

section Sum

variable {x : Vec Ideal S2048x512 .bf16} {rw : Vec Ideal S512x128 .bf16} {ix : Vec Ideal S2048x1 .i32}
  {e : Dev nD → Vec Ideal S8x512x1024 .bf16} {sw : Vec Ideal S512x1024 .bf16}
  (r : Fin 2048 → ℕ) (hr : ∀ n, ix (ix2 n 0) = BitVec.ofNat 32 (r n) ∧ r n < 128)
  (hc : ∀ c g : Fin 16, (Finset.univ.filter fun t : Fin 128 => marked (fun t => r (row c t)) g t).card ≤ 32)
  (hx : ∀ n k, Fin' (x (ix2 n k))) (hrw : ∀ k e, Fin' (rw (ix2 k e)))
  (Y : Dev nD → Vec Ideal S512x1024 .bf16) (hY : ∀ d, Y d = (⟨x, rw, ix, e d, sw⟩ : Inputs Ideal).yb d)

/-- What the token's own expert gives. -/
def part (x : Vec Ideal S2048x512 .bf16) (rw : Vec Ideal S512x128 .bf16) (e : Dev nD → Vec Ideal S8x512x1024 .bf16)
    {r : Fin 2048 → ℕ} (hr : ∀ n, r n < 128) (n : Fin 2048) (l : Fin 1024) : EReal :=
  prob x rw n ⟨r n, hr n⟩ * ∑ k : Fin 512, (x (ix2 n k) : EReal)
    * e ⟨r n / 8, by have := hr n; show _ < 16; omega⟩ (ix3 ⟨r n % 8, Nat.mod_lt _ (by decide)⟩ k l)

include hr hc hx hrw hY in
/-- What device `d`'s products add to chunk `c`'s rows. -/
theorem add_apply (d : Dev nD) (s c : Fin 16) (hs : dest d s = c) (acc : FVec Ideal S128x1024 .f32) (t : Fin 128) (l : Fin 1024) :
    scattered (BitVec.ofNat 32 (8 * d.val)) (slab c ix) acc (rowsOf Y d s) (ix2 t l)
      = acc (ix2 t l) + if r (row c t) / 8 = d.val then part x rw e (fun n => (hr n).2) (row c t) l else 0 := by
  subst hs
  rw [back_apply (r := fun t => r (row (dest d s) t)) (fun t => hr _) d.isLt (hc (dest d s) d) (slab (dest d s) x)
    (slab (dest d s) (gateOf x rw ix)) (e d) (fun t => prob x rw (row (dest d s) t) ⟨r (row (dest d s) t), (hr _).2⟩)
    (fun t => prob_nonneg hx hrw _ _) (fun t => prob_ne_top hx hrw _ _)
    (fun t n => (gateOf_apply x rw ix _ _ (hr _).1 (hr _).2 n).trans ?_)
    (rowsOf Y d s) (fun i l => (rows_apply Y _ d (hY d) s i l).trans (by rw [pk_eq])) acc t l]
  · congr 1
    by_cases h : r (row (dest d s) t) / 8 = d.val
    · rw [if_pos h, if_pos h]
      unfold part
      have : (⟨r (row (dest d s) t) / 8, by have := (hr (row (dest d s) t)).2; show _ < 16; omega⟩ : Dev nD) = d := Fin.ext h
      rw [this]
      rfl
    · rw [if_neg h, if_neg h]
  · by_cases h : n.val = r (row (dest d s) t)
    · exact (if_pos h).trans ((congrArg (prob x rw (row (dest d s) t)) (Fin.ext h)).trans (if_pos h).symm)
    · exact (if_neg h).trans (if_neg h).symm

include hr hc hx hrw hY in
/-- The received products added one after another are a sum. -/
theorem accum_apply (c : Dev nD) (t : Fin 128) (l : Fin 1024) : ∀ (js : List (Fin 15)) (acc : FVec Ideal S128x1024 .f32),
    accum Y c (slab c ix) js acc (ix2 t l)
      = acc (ix2 t l) + (js.map fun j => if r (row c t) / 8 = (nb c j).val then part x rw e (fun n => (hr n).2) (row c t) l else 0).sum
  | [], acc => (add_zero _).symm
  | j :: js, acc => by
    have hd : dest (nb c j) (chunkOf (opp j)) = c := Fin.ext (by
      show ((c.val + 1 + j.val) % 16 + 1 + (14 - j.val)) % 16 = c.val
      have : c.val < 16 := c.isLt
      omega)
    unfold accum
    rw [accum_apply c t l js, loFrom_eq, add_apply r hr hc hx hrw Y hY (nb c j) _ c hd, List.map_cons, List.sum_cons, add_assoc]

/-- Exactly one device holds the expert. -/
theorem sum_one (c : Dev nD) (g : ℕ) (hg : g < 16) (T : EReal) :
    (if g = c.val then T else 0) + (fifteen.map fun j => if g = (nb c j).val then T else 0).sum = T := by
  rw [← List.sum_toFinset _ nodup_fifteen, ← univ_fifteen]
  have hc : c.val < 16 := c.isLt
  by_cases h : g = c.val
  · rw [if_pos h, Finset.sum_eq_zero, add_zero]
    intro j _
    rw [if_neg]
    show ¬ g = (c.val + 1 + j.val) % 16
    omega
  · rw [if_neg h, zero_add, Finset.sum_eq_single (⟨(g + 15 - c.val) % 16, by omega⟩ : Fin 15)]
    · rw [if_pos]
      show g = (c.val + 1 + (g + 15 - c.val) % 16) % 16
      omega
    · intro j _ hj
      rw [if_neg]
      show ¬ g = (c.val + 1 + j.val) % 16
      intro hgj
      refine hj (Fin.ext ?_)
      show j.val = (g + 15 - c.val) % 16
      omega
    · exact fun hn => absurd (Finset.mem_univ _) hn

include hr hc hx hrw hY in
/-- A device's rows. -/
theorem outOf_apply (c : Dev nD) (t : Fin 128) (l : Fin 1024) :
    outOf Y (⟨x, rw, ix, e c, sw⟩ : Inputs Ideal) c (ix2 t l)
      = ∑ k : Fin 512, (x (ix2 (row c t) k) : EReal) * sw (ix2 k l) + part x rw e (fun n => (hr n).2) (row c t) l := by
  have hd : dest c ownChunk = c := Fin.ext (by
    show (c.val + 1 + 15) % 16 = c.val
    have : c.val < 16 := c.isLt
    omega)
  unfold outOf
  rw [rt_eq, accum_apply r hr hc hx hrw Y hY, loWord_eq, add_apply r hr hc hx hrw Y hY c _ c hd, acc0_apply, add_assoc,
    sum_one c _ (by have := (hr (row c t)).2; omega)]

end Sum

end Cert.Moe

end
-- ==== Proof.Pre.lean ====
/-
# What the precondition says
-/
module

public import proofs.«01_k».proof.Proof.Gate
public import proofs.«01_k».proof.Pre_routed_within_capacity_KernelIdeal
public import proofs.«01_k».proof.Pre_routed_within_capacity_ReferenceIdeal
public import Idealize.ShloMosaic.Lib.ReduceAll
public import Idealize.ShloMosaic.Lib.IndicatorCount

@[expose] public section

set_option maxRecDepth 16384

noncomputable section

namespace Cert.Moe.Pre

open Idealize.ShloMosaic
open scoped BigOperators

/-- The shape relations that the printed predicate takes. -/
theorem factsKernelIdeal : Cert.Pre_routed_within_capacity_KernelIdeal.Facts where
  shapeCasts_S2048x1_S16x128x1 := by decide
  bcast_S_S16x128x16 := by decide
  bcast_S16x128x1_S16x128x16_0_1_2 := by decide
  natLt_1_32 := by decide
  reducesTo_S16x128x16_S16x16_d1 := by decide
  h_S_ := by decide
  bcast_S16x16_S16x1x16_0_2 := by decide
  bcast_S_S16x128x1 := by decide
  bcast_S_S16x1x16 := by decide
  bcast_S16x1x16_S16x128x16_0_1_2 := by decide
  bcast_S_S2048x512 := by decide
  reducesTo_S2048x512_S_d0_1 := by decide
  bcast_S_S512x128 := by decide
  reducesTo_S512x128_S_d0_1 := by decide

theorem factsReferenceIdeal : Cert.Pre_routed_within_capacity_ReferenceIdeal.Facts where
  shapeCasts_S2048x1_S16x128x1 := by decide
  bcast_S_S16x128x16 := by decide
  bcast_S16x128x1_S16x128x16_0_1_2 := by decide
  natLt_1_32 := by decide
  reducesTo_S16x128x16_S16x16_d1 := by decide
  h_S_ := by decide
  bcast_S16x16_S16x1x16_0_2 := by decide
  bcast_S_S16x128x1 := by decide
  bcast_S_S16x1x16 := by decide
  bcast_S16x1x16_S16x128x16_0_1_2 := by decide
  bcast_S_S2048x512 := by decide
  reducesTo_S2048x512_S_d0_1 := by decide
  bcast_S_S512x128 := by decide
  reducesTo_S512x128_S_d0_1 := by decide

open Cert.Pre_routed_within_capacity_KernelIdeal

variable [Facts] (x : Vec Ideal S2048x512 .bf16) (rw : Vec Ideal S512x128 .bf16) (ix : Vec Ideal S2048x1 .i32)
  (e : Vec Ideal S8x512x1024 .bf16) (sw : Vec Ideal S512x1024 .bf16)

/-- A conjunction of bits that is one has every bit one. -/
theorem fold_one {ι : Type} (S : Finset ι) (f : ι → BitVec 1) (h : S.fold IntOp.andi (1#1) f = 1#1) : ∀ k ∈ S, f k = 1#1 := by
  classical
  induction S using Finset.induction_on with
  | empty => simp
  | insert a S ha ih =>
    rw [Finset.fold_insert ha, andi_one] at h
    intro k hk
    rcases Finset.mem_insert.mp hk with rfl | hk
    · exact h.1
    · exact ih h.2 k hk

theorem fold_all {ι : Type} [Fintype ι] (f : ι → BitVec 1) (h : Finset.univ.fold IntOp.andi (1#1) f = 1#1) (k : ι) : f k = 1#1 :=
  fold_one _ f h k (Finset.mem_univ k)

/-- A word between 0 and 127 as a signed number. -/
theorem lt_of_word (a : BitVec 32) (h0 : IntOp.cmpi .sge a 0#32 = 1#1) (h1 : IntOp.cmpi .slt a 128#32 = 1#1) : a.toNat < 128 := by
  have h0' : BitVec.ofBool ((0#32).sle a) = 1#1 := h0
  have h1' : BitVec.ofBool (a.slt 128#32) = 1#1 := h1
  rw [ofBool_one, BitVec.sle_iff_toInt_le] at h0'
  rw [ofBool_one, BitVec.slt_iff_toInt_lt] at h1'
  have e0 : (0#32).toInt = 0 := by decide
  have e1 : (128#32).toInt = 128 := by decide
  rw [e0] at h0'; rw [e1] at h1'
  rw [BitVec.toInt_eq_toNat_cond] at h0' h1'
  split at h0' <;> split at h1' <;> omega

theorem ofBits_top : Ideal.ofBits .bf16 32640#16 = ⊤ := by
  simp [Ideal.ofBits, Ideal.ieee]

/-- A number whose absolute value is below infinity is finite. -/
theorem finite_of_abs (a : EReal) (h : BitVec.ofBool (decide (max a (-a) < Ideal.ofBits .bf16 32640#16)) = 1#1) : Fin' a := by
  rw [ofBool_one, decide_eq_true_eq, ofBits_top, max_lt_iff] at h
  refine ⟨?_, h.1.ne⟩
  rintro rfl
  exact absurd h.2 (by simp)

variable {x rw ix e sw}

/-- The precondition as numbers: every route names an expert, no chunk holds more than 32 tokens of a group,
and the tokens and the router's weights are finite. -/
theorem decode (h : fn (F := Ideal) x rw ix e sw = fun _ => 1#1) :
    ∃ r : Fin 2048 → ℕ, (∀ n, ix (ix2 n 0) = BitVec.ofNat 32 (r n) ∧ r n < 128)
      ∧ (∀ c g : Fin 16, (Finset.univ.filter fun t : Fin 128 => marked (fun t => r ⟨c.val * 128 + t.val, by omega⟩) g t).card ≤ 32)
      ∧ (∀ n k, Fin' (x (ix2 n k))) ∧ ∀ k e, Fin' (rw (ix2 k e)) := by
  have hf : ∀ c t g, fn (F := Ideal) x rw ix e sw (ix3 c t g) = 1#1 := fun c t g => congrFun h _
  have key : ∀ (c : Fin 16) (t : Fin 128) (g : Fin 16), _ := fun c t g => by
    have := hf c t g
    revert this
    pointwise [fn, fn_part1]
    intro this
    exact this
  simp only [andi_one] at key
  have hr : ∀ n : Fin 2048, (ix (ix2 n 0)).toNat < 128 := fun n => by
    have := (key ⟨n.val / 128, by omega⟩ ⟨n.val % 128, by omega⟩ 0).1.1.1
    have hn : (⟨n.val / 128 * 128 + n.val % 128, by omega⟩ : Fin 2048) = n := Fin.ext (by show n.val / 128 * 128 + n.val % 128 = n.val; omega)
    simp only [hn] at this
    exact lt_of_word _ this.1 this.2
  have hw : ∀ n : Fin 2048, ix (ix2 n 0) = BitVec.ofNat 32 (ix (ix2 n 0)).toNat := fun n => BitVec.eq_of_toNat_eq (by simp)
  refine ⟨fun n => (ix (ix2 n 0)).toNat, fun n => ⟨hw n, hr n⟩, fun c g => ?_, fun n k => ?_, fun k e => ?_⟩
  · have h1 := (key c 0 g).1.1.2
    rw [IndicatorCount.fold_addi_setWidth_eq_card] at h1
    refine (Finset.card_le_card fun t ht => ?_).trans
      ((sle_one (a := _) (b := 32) ((Finset.card_le_univ _).trans_lt (by simp)) (by omega)).mp h1)
    have hm : (ix (ix2 (⟨c.val * 128 + t.val, by omega⟩ : Fin 2048) 0)).toNat / 8 = g.val := (Finset.mem_filter.mp ht).2
    have hlt := hr ⟨c.val * 128 + t.val, by omega⟩
    refine Finset.mem_filter.mpr ⟨Finset.mem_univ _, ?_⟩
    rw [andi_one, hw]
    have e1 : IntOp.muli (8#32) (BitVec.ofNat 32 g.val) = BitVec.ofNat 32 (8 * g.val) := (BitVec.ofNat_mul 8 g.val).symm
    have e2 : IntOp.addi (BitVec.ofNat 32 (8 * g.val)) 8#32 = BitVec.ofNat 32 (8 * g.val + 8) := (BitVec.ofNat_add _ 8).symm
    rw [e1, e2]
    exact ⟨(sge_one (by omega) (by omega)).mpr (by omega), (slt_one (by omega) (by omega)).mpr (by omega)⟩
  · exact finite_of_abs _ (fold_all _ (key 0 0 0).1.2 (n, k))
  · exact finite_of_abs _ (fold_all _ (key 0 0 0).2 (k, e))

end Cert.Moe.Pre

end
-- ==== Proof.Reference.lean ====
/-
# The reference's value
-/
module

public import proofs.«01_k».proof.Proof.Gate
public import proofs.«01_k».proof.ReferenceIdeal
public import proofs.«01_k».proof.Proof.Gen.ReferenceIdeal
public import proofs.«01_k».proof.Proof.Gen.ReferenceIdeal.Run
public import Idealize.ShloMosaic.Lib.ReduceAll

@[expose] public section

set_option maxRecDepth 16384

noncomputable section

namespace Cert.Moe.Ref

open Cert.ReferenceIdeal Cert.ReferenceIdeal.Gen
open Idealize.ShloMosaic
open Idealize.ShloMosaic.TcCoe
open scoped BigOperators

variable (x : Vec Ideal S2048x512 .bf16) (rw : Vec Ideal S512x128 .bf16) (ix : Vec Ideal S2048x1 .i32)
  (e : Vec Ideal S128x512x1024 .bf16) (sw : Vec Ideal S512x1024 .bf16)

/-- The router's scores; their exponentials below the row's greatest; the softmax. -/
def scores : FVec Ideal S2048x128 .f32 :=
  Host.dotGeneral dot_S2048x512_S512x128_S2048x128_1_0_0_1_n_n none (extf .f32 x bitsLt_bf16_f32) (extf .f32 rw bitsLt_bf16_f32)
def exps : FVec Ideal S2048x128 .f32 :=
  Host.exp (subf (scores x rw) (broadcastInDim S2048x128 ![0, 1] bcast_S2048x1_S2048x128_0_1 (broadcastInDim S2048x1 ![0] bcast_S2048_S2048x1_0
    (Host.reduce FloatOps.maximumf (scores x rw) (constant S_ .f32 0xFF800000#32) reducesTo_S2048x128_S2048_d1 h_S_))))
def probs : FVec Ideal S2048x128 .f32 :=
  Host.divf (exps x rw) (broadcastInDim S2048x128 ![0, 1] bcast_S2048x1_S2048x128_0_1 (broadcastInDim S2048x1 ![0] bcast_S2048_S2048x1_0
    (Host.reduceAdd (exps x rw) (constant S_ .f32 0x00000000#32) reducesTo_S2048x128_S2048_d1 h_S_)))

/-- The route, counted from the end if negative. -/
def wrapped : IVec S2048x1x1 32 :=
  shapeCast S2048x1x1 (select (cmpi .slt ix (broadcastInDim S2048x1 ![] bcast_S_S2048x1 (constantI S_ 32 0#32)))
    (addi ix (broadcastInDim S2048x1 ![] bcast_S_S2048x1 (constantI S_ 32 128#32))) ix) shapeCasts_S2048x1_S2048x1x1
def wrappedRow : IVec S2048x1 32 :=
  broadcastInDim S2048x1 ![0] bcast_S2048_S2048x1_0 (select (cmpi .slt (shapeCast S2048 ix shapeCasts_S2048x1_S2048)
      (broadcastInDim S2048 ![] bcast_S_S2048 (constantI S_ 32 0#32)))
    (addi (shapeCast S2048 ix shapeCasts_S2048x1_S2048) (broadcastInDim S2048 ![] bcast_S_S2048 (constantI S_ 32 128#32)))
    (shapeCast S2048 ix shapeCasts_S2048x1_S2048))

/-- Whether the route names an expert. -/
def inside : IVec S2048x1 1 :=
  Host.reduce IntOp.andi (andi (cmpi .sge (wrapped ix) (broadcastInDim S2048x1x1 ![] bcast_S_S2048x1x1 (constantI S_ 32 0#32)))
    (cmpi .sle (wrapped ix) (broadcastInDim S2048x1x1 ![0, 1, 2] bcast_S1x1x1_S2048x1x1_0_1_2 (broadcastInDim S1x1x1 ![2] bcast_S1_S1x1x1_2 (constantI S1 32 127#32)))))
    (constantI S_ 1 1#1) reducesTo_S2048x1x1_S2048x1_d2 h_S_

/-- The softmax at the token's own expert. -/
def own : FVec Ideal S2048x1 .f32 :=
  select (inside ix) (Host.gather gather_S2048x128_S2048x1x1_S2048x1_n_1_0_0_1_2_11 (probs x rw) (wrapped ix))
    (broadcastInDim S2048x1 ![] bcast_S_S2048x1 (constant S_ .f32 0x7FC00000#32))

/-- The rows. -/
def out : FVec Ideal S2048x1024 .f32 :=
  addf (Host.dotGeneral dot_S2048x512_S512x1024_S2048x1024_1_0_0_1_n_n none (extf .f32 x bitsLt_bf16_f32) (extf .f32 sw bitsLt_bf16_f32))
    (mulf (broadcastInDim S2048x1024 ![0, 1] bcast_S2048x1_S2048x1024_0_1 (own x rw ix))
      (Host.dotGeneral dot_S2048x512_S2048x512x1024_S2048x1024_1_1_n_2_0_0 none (extf .f32 x bitsLt_bf16_f32)
        (Host.gather gather_S128x512x1024_S2048x1_S2048x512x1024_12_0_n_n_0_1_15121024 (extf .f32 e bitsLt_bf16_f32) (wrappedRow ix))))

/-- The reference's run leaves `out` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

/-! ## Read at an index -/

theorem probs_apply (n : Fin 2048) (e : Fin 128) : probs x rw (ix2 n e) = prob x rw n e := by
  pointwise [probs, exps, scores]
  rw [ofBits_bot]
  rfl

variable {ix} (r : Fin 2048 → ℕ) (h : ∀ n, ix (ix2 n 0) = BitVec.ofNat 32 (r n) ∧ r n < 128)

/-- The take along the experts: of row `n`, the entry its own start index names. -/
theorem take_apply {α : Type} (y : S2048x128.Idx → α) (w : IVec S2048x1x1 32) (n : Fin 2048) (b : ℕ) (hb : b < 128)
    (hw : w (ix3 n 0 0) = BitVec.ofNat 32 b) :
    Host.gather gather_S2048x128_S2048x1x1_S2048x1_n_1_0_0_1_2_11 y w (ix2 n 0) = y (ix2 n ⟨b, hb⟩) := by
  unfold Host.gather
  refine congrArg y (funext fun a => Fin.ext ?_)
  set d := gather_S2048x128_S2048x1x1_S2048x1_n_1_0_0_1_2_11 with hd
  show d.start (ix2 n 0) w a + d.batchCoord (ix2 n 0) a + d.offCoord (ix2 n 0) a = _
  match a with
  | ⟨0, _⟩ =>
    show d.start (ix2 n 0) w 0 + d.batchCoord (ix2 n 0) 0 + d.offCoord (ix2 n 0) 0 = _
    rw [d.start_batching _ _ _ (List.mem_singleton.mpr rfl),
      d.offCoord_eq_zero _ _ (fun h => ((d.mem_sKept _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | ⟨1, _⟩ =>
    show d.start (ix2 n 0) w 1 + d.batchCoord (ix2 n 0) 1 + d.offCoord (ix2 n 0) 1 = _
    rw [d.batchCoord_eq_zero _ _ (fun h => absurd (List.mem_singleton.mp h) (by decide)),
      d.offCoord_eq_zero _ _ (fun h => ((d.mem_sKept _).mp h).1 (List.mem_singleton.mpr rfl))]
    simp only [Nat.add_zero]
    unfold GatherDims.start
    rw [dif_pos (show (1 : Fin 2) ∈ d.startIndexMap from List.mem_singleton.mpr rfl)]
    have hs : d.siIdx (ix2 n 0) ⟨List.idxOf (1 : Fin 2) d.startIndexMap, List.idxOf_lt_length_iff.2 (List.mem_singleton.mpr rfl)⟩
        = ix3 n 0 0 := by
      funext q; refine Fin.ext ?_
      match q with
      | ⟨0, _⟩ => rfl
      | ⟨1, _⟩ => rfl
      | ⟨2, _⟩ => rfl
    rw [hs, hw]
    show min (BitVec.ofNat 32 b).toInt.toNat 127 = b
    rw [BitVec.toInt_ofNat', Int.bmod_def]
    norm_num
    omega

/-- The take of whole matrices: the one the start index names. -/
theorem takeMatrix_apply {α : Type} (y : S128x512x1024.Idx → α) (w : IVec S2048x1 32) (n : Fin 2048) (k : Fin 512) (l : Fin 1024)
    (b : ℕ) (hb : b < 128) (hw : w (ix2 n 0) = BitVec.ofNat 32 b) :
    Host.gather gather_S128x512x1024_S2048x1_S2048x512x1024_12_0_n_n_0_1_15121024 y w (ix3 n k l) = y (ix3 ⟨b, hb⟩ k l) := by
  unfold Host.gather
  refine congrArg y (funext fun a => Fin.ext ?_)
  set d := gather_S128x512x1024_S2048x1_S2048x512x1024_12_0_n_n_0_1_15121024 with hd
  have hz : ∀ a, a ∉ d.operandBatchingDims := fun a => List.not_mem_nil
  have hk : ∀ a : Fin 3, a ≠ 0 → (∀ o, d.offCoord o a = (o a).val) →
      d.start (ix3 n k l) w a + d.batchCoord (ix3 n k l) a + d.offCoord (ix3 n k l) a = (ix3 (⟨b, hb⟩ : Fin 128) k l a).val := by
    intro a h0 ho
    rw [d.batchCoord_eq_zero _ _ (hz _), ho]
    unfold GatherDims.start
    rw [dif_neg (show a ∉ d.startIndexMap from fun h => h0 (List.mem_singleton.mp h))]
    simp only [Nat.zero_add]
    match a with
    | ⟨0, _⟩ => exact absurd rfl h0
    | ⟨1, _⟩ => rfl
    | ⟨2, _⟩ => rfl
  match a with
  | ⟨0, _⟩ =>
    show d.start (ix3 n k l) w 0 + d.batchCoord (ix3 n k l) 0 + d.offCoord (ix3 n k l) 0 = _
    rw [d.batchCoord_eq_zero _ _ (hz _),
      d.offCoord_eq_zero _ _ (fun h => ((d.mem_sKept _).mp h).1 (List.mem_singleton.mpr rfl))]
    simp only [Nat.add_zero]
    unfold GatherDims.start
    rw [dif_pos (show (0 : Fin 3) ∈ d.startIndexMap from List.mem_singleton.mpr rfl)]
    have hs : d.siIdx (ix3 n k l) ⟨List.idxOf (0 : Fin 3) d.startIndexMap, List.idxOf_lt_length_iff.2 (List.mem_singleton.mpr rfl)⟩
        = ix2 n 0 := by
      funext q; refine Fin.ext ?_
      match q with
      | ⟨0, _⟩ => rfl
      | ⟨1, _⟩ => rfl
    rw [hs, hw]
    show min (BitVec.ofNat 32 b).toInt.toNat 127 = b
    rw [BitVec.toInt_ofNat', Int.bmod_def]
    norm_num
    omega
  | ⟨1, _⟩ => exact hk 1 (by decide) (fun o => by unfold GatherDims.offCoord; rw [dif_pos (by decide)]; rfl)
  | ⟨2, _⟩ => exact hk 2 (by decide) (fun o => by unfold GatherDims.offCoord; rw [dif_pos (by decide)]; rfl)

/-! Where every route names an expert, neither wrapping changes it and the mask is all ones. -/

include h in
theorem wrapped_apply (n : Fin 2048) : wrapped ix (ix3 n 0 0) = BitVec.ofNat 32 (r n) := by
  pointwise [wrapped]
  have := (h n).2
  rw [(h n).1, show IntOp.cmpi .slt (BitVec.ofNat 32 (r n)) 0#32 = 0#1 from ValueIdx.eq_zero_of_ne_one fun hc => by
    have := (slt_one (a := r n) (b := 0) (by omega) (by omega)).mp hc; omega]
  rfl
include h in
theorem wrappedRow_apply (n : Fin 2048) : wrappedRow ix (ix2 n 0) = BitVec.ofNat 32 (r n) := by
  pointwise [wrappedRow]
  have := (h n).2
  rw [(h n).1, show IntOp.cmpi .slt (BitVec.ofNat 32 (r n)) 0#32 = 0#1 from ValueIdx.eq_zero_of_ne_one fun hc => by
    have := (slt_one (a := r n) (b := 0) (by omega) (by omega)).mp hc; omega]
  rfl
include h in
theorem inside_apply (n : Fin 2048) : inside ix (ix2 n 0) = 1#1 := by
  pointwise [inside]
  have := (h n).2
  rw [Finset.univ_unique, Finset.fold_singleton, andi_one, andi_one]
  refine ⟨⟨?_, ?_⟩, rfl⟩
  · refine (congrArg (IntOp.cmpi .sge · 0#32) (wrapped_apply r h n)).trans ((sge_one (a := r n) (b := 0) (by omega) (by omega)).mpr (by omega))
  · refine (congrArg (IntOp.cmpi .sle · 127#32) (wrapped_apply r h n)).trans ((sle_one (a := r n) (b := 127) (by omega) (by omega)).mpr (by omega))
include h in
/-- The softmax at the token's own expert. -/
theorem own_apply (n : Fin 2048) : own x rw ix (ix2 n 0) = prob x rw n ⟨r n, (h n).2⟩ := by
  pointwise [own]
  rw [inside_apply r h n, take_apply _ _ n (r n) (h n).2 (wrapped_apply r h n), probs_apply]
  rfl

include h in
/-- A row of the reference: the shared product, and the gate times the product with the token's own expert. -/
theorem out_apply (n : Fin 2048) (l : Fin 1024) : out x rw ix e sw (ix2 n l)
    = ∑ k : Fin 512, (x (ix2 n k) : EReal) * sw (ix2 k l)
      + prob x rw n ⟨r n, (h n).2⟩ * ∑ k : Fin 512, (x (ix2 n k) : EReal) * e (ix3 ⟨r n, (h n).2⟩ k l) := by
  pointwise [out]
  rw [own_apply x rw r h n]
  simp only [takeMatrix_apply _ _ n _ l (r n) (h n).2 (wrappedRow_apply r h n)]
  rfl

end Cert.Moe.Ref

end
-- ==== Proof.Value.lean ====
/-
# The kernel's result is the reference's
-/
module

public import proofs.«01_k».proof.Defs
public import proofs.«01_k».proof.Proof.Device
public import proofs.«01_k».proof.Proof.Pre
public import proofs.«01_k».proof.Proof.Reference
public import proofs.«01_k».proof.Proof.Main
public import Idealize.ShloMosaic.Lib.Layout

@[expose] public section

set_option maxRecDepth 16384

noncomputable section

namespace Cert.Moe

open Cert.KernelIdeal Cert.KernelIdeal.Gen
open Idealize.ShloMosaic
open Idealize.ShloMosaic.TcCoe
open Idealize.ShloMosaic.Pipeline (Dat Cfg Window)
open scoped BigOperators

variable (m : (ℓ : Loc nD τ sig) → Buf (Elt Ideal) ℓ) (ρ : Dev nD → PrngReg)

/-- A whole window reads the array as it is. -/
theorem inputs_eq (c : Dev nD) : inputs m c = ⟨m ((c : Thread nD τ).loc main_arg0), m ((c : Thread nD τ).loc main_arg1),
    m ((c : Thread nD τ).loc main_arg2), m ((c : Thread nD τ).loc main_arg3), m ((c : Thread nD τ).loc main_arg4)⟩ := by
  unfold inputs
  congr 1 <;> funext j
  · exact congrArg (m ((c : Thread nD τ).loc main_arg0)) (funext fun a => Fin.ext (win0_0.rect_emb_val_of_index_zero (0 : Fin 1) a rfl j))
  · exact congrArg (m ((c : Thread nD τ).loc main_arg1)) (funext fun a => Fin.ext (win0_1.rect_emb_val_of_index_zero (0 : Fin 1) a rfl j))
  · exact congrArg (m ((c : Thread nD τ).loc main_arg2)) (funext fun a => Fin.ext (win0_2.rect_emb_val_of_index_zero (0 : Fin 1) a rfl j))
  · exact congrArg (m ((c : Thread nD τ).loc main_arg3)) (funext fun a => Fin.ext (win0_3.rect_emb_val_of_index_zero (0 : Fin 1) a rfl j))
  · exact congrArg (m ((c : Thread nD τ).loc main_arg4)) (funext fun a => Fin.ext (win0_4.rect_emb_val_of_index_zero (0 : Fin 1) a rfl j))

/-- The result array ends as the device's rows. -/
theorem finalA_5 (c : Dev nD) : finalA m ρ c (5 : Fin 6) = rows m c :=
  (dats (F := Ideal) m ρ 0 c).arrAt_eq_of_after_last (5 : Fin 6) t₀ (by decide +kernel) (rows m c) fun j => rfl

/-! A block of rows and a block of experts, read at an index. -/

theorem block_rows (v : (⟨2, ![2048, 1024]⟩ : Shape).Idx → EReal) (c : Fin 16) (t : Fin 128) (l : Fin 1024) :
    Layout.block ⟨2, ![128, 1024]⟩ ⟨2, ![2048, 1024]⟩ 0 16 c v (by decide) (ix2 t l) = v (ix2 (row c t) l) := by
  rw [Layout.block_apply]
  refine congrArg v (funext fun a => Fin.ext ?_)
  rw [Layout.Tiles.idx_val]
  match a with
  | ⟨0, _⟩ => rfl
  | ⟨1, _⟩ => rfl

theorem block_experts (v : (⟨3, ![128, 512, 1024]⟩ : Shape).Idx → EReal) (c : Fin 16) (g : Fin 8) (k : Fin 512) (l : Fin 1024)
    (n : Fin 128) (hn : n.val = c.val * 8 + g.val) :
    Layout.block ⟨3, ![8, 512, 1024]⟩ ⟨3, ![128, 512, 1024]⟩ 0 16 c v (by decide) (ix3 g k l) = v (ix3 n k l) := by
  rw [Layout.block_apply]
  refine congrArg v (funext fun a => Fin.ext ?_)
  rw [Layout.Tiles.idx_val]
  match a with
  | ⟨0, _⟩ => exact hn.symm
  | ⟨1, _⟩ => rfl
  | ⟨2, _⟩ => rfl

/-- Every device's rows are its block of the reference's. -/
theorem rows_eq (x : Vec Ideal S2048x512 .bf16) (rw : Vec Ideal S512x128 .bf16) (ix : Vec Ideal S2048x1 .i32)
    (e : Vec Ideal Cert.ReferenceIdeal.S128x512x1024 .bf16) (sw : Vec Ideal S512x1024 .bf16)
    (r : Fin 2048 → ℕ) (hr : ∀ n, ix (ix2 n 0) = BitVec.ofNat 32 (r n) ∧ r n < 128)
    (hc : ∀ c g : Fin 16, (Finset.univ.filter fun t : Fin 128 => marked (fun t => r (row c t)) g t).card ≤ 32)
    (hx : ∀ n k, Fin' (x (ix2 n k))) (hrw : ∀ k e, Fin' (rw (ix2 k e)))
    (hm : ∀ c : Dev nD, inputs m c = ⟨x, rw, ix, Layout.block ⟨3, ![8, 512, 1024]⟩ ⟨3, ![128, 512, 1024]⟩ 0 16 c e, sw⟩) (c : Dev nD) :
    rows m c = Layout.block ⟨2, ![128, 1024]⟩ ⟨2, ![2048, 1024]⟩ 0 16 c (Ref.out x rw ix e sw) := by
  have key : ∀ (t : Fin 128) (l : Fin 1024), rows m c (ix2 t l) = Ref.out x rw ix e sw (ix2 (row c t) l) := fun t l => by
    unfold rows
    rw [hm c]
    refine (outOf_apply (e := fun d => Layout.block ⟨3, ![8, 512, 1024]⟩ ⟨3, ![128, 512, 1024]⟩ 0 16 d e) r hr hc hx hrw (prods m)
      (fun d => by unfold prods; rw [hm d]) c t l).trans ?_
    rw [Ref.out_apply x rw e sw r hr]
    congr 1
    unfold part
    refine congrArg (prob x rw _ _ * ·) (Finset.sum_congr rfl fun k _ => congrArg (_ * ·) (block_experts e _ _ k _ _ ?_))
    show r _ = r _ / 8 * 8 + r _ % 8
    omega
  funext i
  refine Eq.trans ?_ ((congrArg (Layout.block ⟨2, ![128, 1024]⟩ ⟨2, ![2048, 1024]⟩ 0 16 c (Ref.out x rw ix e sw)) (eq_ix2 i)).trans
    (block_rows _ c (i 0) (i 1))).symm
  exact (congrArg (rows m c) (eq_ix2 i)).trans (key (i 0) (i 1))

/-- Under the precondition the kernel leaves on each device that device's rows of the reference's result. -/
theorem algebraic : Cert.algebraic_KernelIdeal_ReferenceIdeal_pre_routed_within_capacity_KernelIdeal
    (hPre_routed_within_capacity_KernelIdeal := Pre.factsKernelIdeal) := by
  intro m g m' g' hpre hargs
  haveI := Pre.factsKernelIdeal
  have hp := hpre 0
  rw [(hargs 0).1, (hargs 0).2.1, (hargs 0).2.2.1] at hp
  obtain ⟨r, hr, hc, hx, hrw⟩ := Pre.decode hp
  refine ⟨_, (θ_run _ _ _).mono (fun s h c => ?_) (run_args m g), (θ_run _ _ _).mono (fun s h => h 0) (Ref.run m' g')⟩
  refine ⟨(h.1 c).1.trans ((finalA_5 m g c).trans ?_), (h.1 c).2⟩
  refine rows_eq m _ _ _ _ _ r hr hc hx hrw (fun d => ?_) c
  rw [inputs_eq, (hargs d).1, (hargs d).2.1, (hargs d).2.2.1, (hargs d).2.2.2.1, (hargs d).2.2.2.2]

end Cert.Moe

end
-- ==== Proof.lean ====
/-
# The certificate

The claims, each proved in its own module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Moe.Pre.factsKernelIdeal, Cert.Moe.Pre.factsReferenceIdeal,
  Cert.Moe.frame_kernel, Cert.Moe.frame_kernelIdeal, fun m ρ _ => Cert.Moe.frame_kernelIdeal m ρ trivial,
  Cert.Moe.frame_referenceIdeal, fun m ρ _ => Cert.Moe.frame_referenceIdeal m ρ trivial, trivial, Cert.Moe.algebraic⟩

end Cert.Proof

end
